-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Cin (m : (ℓ : Loc Cert.Cin.nD Cert.Cin.τ Cert.Cin.sig) → Buf (Elt Bits) ℓ) : Prop :=
  True

def Pre_CinIdeal (m : (ℓ : Loc Cert.CinIdeal.nD Cert.CinIdeal.τ Cert.CinIdeal.sig) → Buf (Elt Ideal) ℓ) : Prop :=
  True

def Pre_CinRefIdeal (m : (ℓ : Loc Cert.CinRefIdeal.nD Cert.CinRefIdeal.τ Cert.CinRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Dsa (m : (ℓ : Loc Cert.Dsa.nD Cert.Dsa.τ Cert.Dsa.sig) → Buf (Elt Bits) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_Cin [hCin : Cert.Cin.Facts] : Prop :=
  ∀ (m : (ℓ : Loc Cert.Cin.nD Cert.Cin.τ Cert.Cin.sig) → Buf (Elt Bits) ℓ) (g : Dev Cert.Cin.nD → PrngReg), Pre_Cin m →
    θ_run (Cert.Cin.defs (F := Bits)) (onTc (τ := Cert.Cin.τ) (Cert.Cin.main (F := Bits))) ⟨m, fun _ => 0, g⟩ (fun r => (∀ c : Dev Cert.Cin.nD,
      r.2.mem ((c.tc : Thread Cert.Cin.nD Cert.Cin.τ).loc Cert.Cin.main_arg0) = m ((c.tc : Thread Cert.Cin.nD Cert.Cin.τ).loc Cert.Cin.main_arg0)
      ∧ r.2.mem ((c.tc : Thread Cert.Cin.nD Cert.Cin.τ).loc Cert.Cin.main_arg1) = m ((c.tc : Thread Cert.Cin.nD Cert.Cin.τ).loc Cert.Cin.main_arg1)
      ∧ r.2.mem ((c.tc : Thread Cert.Cin.nD Cert.Cin.τ).loc Cert.Cin.main_arg2) = m ((c.tc : Thread Cert.Cin.nD Cert.Cin.τ).loc Cert.Cin.main_arg2))
      ∧ r.2.sem = fun _ => 0)

def quiescent_CinIdeal [hCinIdeal : Cert.CinIdeal.Facts] : Prop :=
  ∀ (m : (ℓ : Loc Cert.CinIdeal.nD Cert.CinIdeal.τ Cert.CinIdeal.sig) → Buf (Elt Ideal) ℓ) (g : Dev Cert.CinIdeal.nD → PrngReg), Pre_CinIdeal m →
    θ_run (Cert.CinIdeal.defs (F := Ideal)) (onTc (τ := Cert.CinIdeal.τ) (Cert.CinIdeal.main (F := Ideal))) ⟨m, fun _ => 0, g⟩ (fun r => (∀ c : Dev Cert.CinIdeal.nD,
      r.2.mem ((c.tc : Thread Cert.CinIdeal.nD Cert.CinIdeal.τ).loc Cert.CinIdeal.main_arg0) = m ((c.tc : Thread Cert.CinIdeal.nD Cert.CinIdeal.τ).loc Cert.CinIdeal.main_arg0)
      ∧ r.2.mem ((c.tc : Thread Cert.CinIdeal.nD Cert.CinIdeal.τ).loc Cert.CinIdeal.main_arg1) = m ((c.tc : Thread Cert.CinIdeal.nD Cert.CinIdeal.τ).loc Cert.CinIdeal.main_arg1)
      ∧ r.2.mem ((c.tc : Thread Cert.CinIdeal.nD Cert.CinIdeal.τ).loc Cert.CinIdeal.main_arg2) = m ((c.tc : Thread Cert.CinIdeal.nD Cert.CinIdeal.τ).loc Cert.CinIdeal.main_arg2))
      ∧ r.2.sem = fun _ => 0)

def quiescent_CinRefIdeal [hCinRefIdeal : Cert.CinRefIdeal.Facts] : Prop :=
  ∀ (m : (ℓ : Loc Cert.CinRefIdeal.nD Cert.CinRefIdeal.τ Cert.CinRefIdeal.sig) → Buf (Elt Ideal) ℓ) (g : Dev Cert.CinRefIdeal.nD → PrngReg), Pre_CinRefIdeal m →
    θ_run (Cert.CinRefIdeal.defs (F := Ideal)) (onTc (τ := Cert.CinRefIdeal.τ) (Cert.CinRefIdeal.main (F := Ideal))) ⟨m, fun _ => 0, g⟩ (fun r => (∀ c : Dev Cert.CinRefIdeal.nD,
      r.2.mem ((c.tc : Thread Cert.CinRefIdeal.nD Cert.CinRefIdeal.τ).loc Cert.CinRefIdeal.main_arg0) = m ((c.tc : Thread Cert.CinRefIdeal.nD Cert.CinRefIdeal.τ).loc Cert.CinRefIdeal.main_arg0)
      ∧ r.2.mem ((c.tc : Thread Cert.CinRefIdeal.nD Cert.CinRefIdeal.τ).loc Cert.CinRefIdeal.main_arg1) = m ((c.tc : Thread Cert.CinRefIdeal.nD Cert.CinRefIdeal.τ).loc Cert.CinRefIdeal.main_arg1)
      ∧ r.2.mem ((c.tc : Thread Cert.CinRefIdeal.nD Cert.CinRefIdeal.τ).loc Cert.CinRefIdeal.main_arg2) = m ((c.tc : Thread Cert.CinRefIdeal.nD Cert.CinRefIdeal.τ).loc Cert.CinRefIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6)
      ∧ r.2.mem ((c.tc : Thread Cert.Dsa.nD Cert.Dsa.τ).loc Cert.Dsa.main_arg7) = m ((c.tc : Thread Cert.Dsa.nD Cert.Dsa.τ).loc Cert.Dsa.main_arg7)
      ∧ r.2.mem ((c.tc : Thread Cert.Dsa.nD Cert.Dsa.τ).loc Cert.Dsa.main_arg8) = m ((c.tc : Thread Cert.Dsa.nD Cert.Dsa.τ).loc Cert.Dsa.main_arg8)
      ∧ r.2.mem ((c.tc : Thread Cert.Dsa.nD Cert.Dsa.τ).loc Cert.Dsa.main_arg9) = m ((c.tc : Thread Cert.Dsa.nD Cert.Dsa.τ).loc Cert.Dsa.main_arg9))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v336) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v6)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v6) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v34) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_Cin_CinIdeal : Prop :=
  True

def algebraic_CinIdeal_CinRefIdeal [hCinIdeal : Cert.CinIdeal.Facts] [hCinRefIdeal : Cert.CinRefIdeal.Facts] : Prop :=
  ∀ (m : (ℓ : Loc Cert.CinIdeal.nD Cert.CinIdeal.τ Cert.CinIdeal.sig) → Buf (Elt Ideal) ℓ) (g : Dev Cert.CinIdeal.nD → PrngReg)
    (m' : (ℓ : Loc Cert.CinRefIdeal.nD Cert.CinRefIdeal.τ Cert.CinRefIdeal.sig) → Buf (Elt Ideal) ℓ) (g' : Dev Cert.CinRefIdeal.nD → PrngReg), Pre_CinIdeal m →
    (∀ c : Dev Cert.CinIdeal.nD,
      m' ((c.tc : Thread Cert.CinRefIdeal.nD Cert.CinRefIdeal.τ).loc Cert.CinRefIdeal.main_arg0) = m ((c.tc : Thread Cert.CinIdeal.nD Cert.CinIdeal.τ).loc Cert.CinIdeal.main_arg0)
      ∧ m' ((c.tc : Thread Cert.CinRefIdeal.nD Cert.CinRefIdeal.τ).loc Cert.CinRefIdeal.main_arg1) = m ((c.tc : Thread Cert.CinIdeal.nD Cert.CinIdeal.τ).loc Cert.CinIdeal.main_arg1)
      ∧ m' ((c.tc : Thread Cert.CinRefIdeal.nD Cert.CinRefIdeal.τ).loc Cert.CinRefIdeal.main_arg2) = m ((c.tc : Thread Cert.CinIdeal.nD Cert.CinIdeal.τ).loc Cert.CinIdeal.main_arg2)) →
    ∃ (v0 : (c : Dev Cert.CinIdeal.nD) → Buf (Elt Ideal) ((c.tc : Thread Cert.CinIdeal.nD Cert.CinIdeal.τ).loc Cert.CinIdeal.main_v14_0)) (v1 : (c : Dev Cert.CinIdeal.nD) → Buf (Elt Ideal) ((c.tc : Thread Cert.CinIdeal.nD Cert.CinIdeal.τ).loc Cert.CinIdeal.main_v14_1)) (v2 : (c : Dev Cert.CinIdeal.nD) → Buf (Elt Ideal) ((c.tc : Thread Cert.CinIdeal.nD Cert.CinIdeal.τ).loc Cert.CinIdeal.main_v14_2)) (v3 : (c : Dev Cert.CinIdeal.nD) → Buf (Elt Ideal) ((c.tc : Thread Cert.CinIdeal.nD Cert.CinIdeal.τ).loc Cert.CinIdeal.main_v14_3)) (v4 : (c : Dev Cert.CinIdeal.nD) → Buf (Elt Ideal) ((c.tc : Thread Cert.CinIdeal.nD Cert.CinIdeal.τ).loc Cert.CinIdeal.main_v14_4)) (v5 : (c : Dev Cert.CinIdeal.nD) → Buf (Elt Ideal) ((c.tc : Thread Cert.CinIdeal.nD Cert.CinIdeal.τ).loc Cert.CinIdeal.main_v14_5)),
      θ_run (Cert.CinIdeal.defs (F := Ideal)) (onTc (τ := Cert.CinIdeal.τ) (Cert.CinIdeal.main (F := Ideal))) ⟨m, fun _ => 0, g⟩ (fun r => ∀ c : Dev Cert.CinIdeal.nD,
          r.2.mem ((c.tc : Thread Cert.CinIdeal.nD Cert.CinIdeal.τ).loc Cert.CinIdeal.main_v14_0) = v0 c
          ∧ r.2.mem ((c.tc : Thread Cert.CinIdeal.nD Cert.CinIdeal.τ).loc Cert.CinIdeal.main_v14_1) = v1 c
          ∧ r.2.mem ((c.tc : Thread Cert.CinIdeal.nD Cert.CinIdeal.τ).loc Cert.CinIdeal.main_v14_2) = v2 c
          ∧ r.2.mem ((c.tc : Thread Cert.CinIdeal.nD Cert.CinIdeal.τ).loc Cert.CinIdeal.main_v14_3) = v3 c
          ∧ r.2.mem ((c.tc : Thread Cert.CinIdeal.nD Cert.CinIdeal.τ).loc Cert.CinIdeal.main_v14_4) = v4 c
          ∧ r.2.mem ((c.tc : Thread Cert.CinIdeal.nD Cert.CinIdeal.τ).loc Cert.CinIdeal.main_v14_5) = v5 c
          ∧ r.2.mem ((c.tc : Thread Cert.CinIdeal.nD Cert.CinIdeal.τ).loc Cert.CinIdeal.main_arg0) = m ((c.tc : Thread Cert.CinIdeal.nD Cert.CinIdeal.τ).loc Cert.CinIdeal.main_arg0)
          ∧ r.2.mem ((c.tc : Thread Cert.CinIdeal.nD Cert.CinIdeal.τ).loc Cert.CinIdeal.main_arg1) = m ((c.tc : Thread Cert.CinIdeal.nD Cert.CinIdeal.τ).loc Cert.CinIdeal.main_arg1)
          ∧ r.2.mem ((c.tc : Thread Cert.CinIdeal.nD Cert.CinIdeal.τ).loc Cert.CinIdeal.main_arg2) = m ((c.tc : Thread Cert.CinIdeal.nD Cert.CinIdeal.τ).loc Cert.CinIdeal.main_arg2))
      ∧ θ_run (Cert.CinRefIdeal.defs (F := Ideal)) (onTc (τ := Cert.CinRefIdeal.τ) (Cert.CinRefIdeal.main (F := Ideal))) ⟨m', fun _ => 0, g'⟩ (fun r => ∀ c : Dev Cert.CinRefIdeal.nD,
          r.2.mem ((c.tc : Thread Cert.CinRefIdeal.nD Cert.CinRefIdeal.τ).loc Cert.CinRefIdeal.main_v24) = v0 c
          ∧ r.2.mem ((c.tc : Thread Cert.CinRefIdeal.nD Cert.CinRefIdeal.τ).loc Cert.CinRefIdeal.main_v25) = v1 c
          ∧ r.2.mem ((c.tc : Thread Cert.CinRefIdeal.nD Cert.CinRefIdeal.τ).loc Cert.CinRefIdeal.main_v29) = v2 c
          ∧ r.2.mem ((c.tc : Thread Cert.CinRefIdeal.nD Cert.CinRefIdeal.τ).loc Cert.CinRefIdeal.main_v30) = v3 c
          ∧ r.2.mem ((c.tc : Thread Cert.CinRefIdeal.nD Cert.CinRefIdeal.τ).loc Cert.CinRefIdeal.main_v32) = v4 c
          ∧ r.2.mem ((c.tc : Thread Cert.CinRefIdeal.nD Cert.CinRefIdeal.τ).loc Cert.CinRefIdeal.main_v33) = v5 c
          ∧ r.2.mem ((c.tc : Thread Cert.CinRefIdeal.nD Cert.CinRefIdeal.τ).loc Cert.CinRefIdeal.main_arg0) = m' ((c.tc : Thread Cert.CinRefIdeal.nD Cert.CinRefIdeal.τ).loc Cert.CinRefIdeal.main_arg0)
          ∧ r.2.mem ((c.tc : Thread Cert.CinRefIdeal.nD Cert.CinRefIdeal.τ).loc Cert.CinRefIdeal.main_arg1) = m' ((c.tc : Thread Cert.CinRefIdeal.nD Cert.CinRefIdeal.τ).loc Cert.CinRefIdeal.main_arg1)
          ∧ r.2.mem ((c.tc : Thread Cert.CinRefIdeal.nD Cert.CinRefIdeal.τ).loc Cert.CinRefIdeal.main_arg2) = m' ((c.tc : Thread Cert.CinRefIdeal.nD Cert.CinRefIdeal.τ).loc Cert.CinRefIdeal.main_arg2))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v57)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v57) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v41) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hFfnLast : Cert.FfnLast.Facts) (hFfnLastIdeal : Cert.FfnLastIdeal.Facts) (hFfnLastRefIdeal : Cert.FfnLastRefIdeal.Facts) (hCin : Cert.Cin.Facts) (hCinIdeal : Cert.CinIdeal.Facts) (hCinRefIdeal : Cert.CinRefIdeal.Facts) (hBias : Cert.Bias.Facts) (hBiasIdeal : Cert.BiasIdeal.Facts) (hBiasRefIdeal : Cert.BiasRefIdeal.Facts) (hDsa : Cert.Dsa.Facts),
    quiescent_Mix (hMix := hMix)
    ∧ quiescent_MixIdeal (hMixIdeal := hMixIdeal)
    ∧ quiescent_MixRefIdeal (hMixRefIdeal := hMixRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Cin (hCin := hCin)
    ∧ quiescent_CinIdeal (hCinIdeal := hCinIdeal)
    ∧ quiescent_CinRefIdeal (hCinRefIdeal := hCinRefIdeal)
    ∧ quiescent_Bias (hBias := hBias)
    ∧ quiescent_BiasIdeal (hBiasIdeal := hBiasIdeal)
    ∧ quiescent_BiasRefIdeal (hBiasRefIdeal := hBiasRefIdeal)
    ∧ quiescent_Dsa (hDsa := hDsa)
    ∧ preserves_Mix_MixIdeal
    ∧ algebraic_MixIdeal_MixRefIdeal (hMixIdeal := hMixIdeal) (hMixRefIdeal := hMixRefIdeal)
    ∧ preserves_Ffn_FfnIdeal
    ∧ algebraic_FfnIdeal_FfnRefIdeal (hFfnIdeal := hFfnIdeal) (hFfnRefIdeal := hFfnRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Cin_CinIdeal
    ∧ algebraic_CinIdeal_CinRefIdeal (hCinIdeal := hCinIdeal) (hCinRefIdeal := hCinRefIdeal)
    ∧ preserves_Bias_BiasIdeal
    ∧ algebraic_BiasIdeal_BiasRefIdeal (hBiasIdeal := hBiasIdeal) (hBiasRefIdeal := hBiasRefIdeal)
-- ==== Mix.lean ====
abbrev S32x2048x1024 : Shape := ⟨3, ![32, 2048, 1024]⟩
abbrev S1024 : Shape := ⟨1, ![1024]⟩
abbrev S1024x1536 : Shape := ⟨2, ![1024, 1536]⟩
abbrev S4x128x128 : Shape := ⟨3, ![4, 128, 128]⟩
abbrev S512 : Shape := ⟨1, ![512]⟩
abbrev S31x512 : Shape := ⟨2, ![31, 512]⟩
abbrev S1024x1024 : Shape := ⟨2, ![1024, 1024]⟩
abbrev S1x1024 : Shape := ⟨2, ![1, 1024]⟩
abbrev S1x512 : Shape := ⟨2, ![1, 512]⟩
abbrev S1x512x1024 : Shape := ⟨3, ![1, 512, 1024]⟩
abbrev S544x512 : Shape := ⟨2, ![544, 512]⟩
abbrev S32x512 : Shape := ⟨2, ![32, 512]⟩
abbrev S512x1024 : Shape := ⟨2, ![512, 1024]⟩
abbrev S512x1 : Shape := ⟨2, ![512, 1]⟩
abbrev S512x1536 : Shape := ⟨2, ![512, 1536]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 19
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x1536, .f32⟩
  | .hbm, ⟨3, _⟩ => ⟨S4x128x128, .f32⟩
  | .hbm, ⟨4, _⟩ => ⟨S512, .f32⟩
  | .hbm, ⟨5, _⟩ => ⟨S31x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1x1024, .f32⟩
  | .hbm, ⟨11, _⟩ => ⟨S1024x1536, .bf16⟩
  | .hbm, ⟨12, _⟩ => ⟨S4x128x128, .bf16⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1024x1024, .bf16⟩
  | .hbm, ⟨18, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S4x128x128, .bf16⟩
  | .local _ .vmem, ⟨5, _⟩ => ⟨S1x512, .f32⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x512x1024, .f32⟩
  | .local _ .vmem, ⟨12, _⟩ => ⟨S1x512x1024, .f32⟩
  | .local _ .vmem, ⟨13, _⟩ => ⟨S544x512, .f32⟩
  | .local _ .vmem, ⟨14, _⟩ => ⟨S544x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S32x2048x1024 : Shape := ⟨3, ![32, 2048, 1024]⟩
abbrev S1024 : Shape := ⟨1, ![1024]⟩
abbrev S1024x1536 : Shape := ⟨2, ![1024, 1536]⟩
abbrev S4x128x128 : Shape := ⟨3, ![4, 128, 128]⟩
abbrev S512 : Shape := ⟨1, ![512]⟩
abbrev S31x512 : Shape := ⟨2, ![31, 512]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x1536 : Shape := ⟨3, ![32, 2048, 1536]⟩
abbrev S32x2048x512 : Shape := ⟨3, ![32, 2048, 512]⟩
abbrev S32x2048x4x128 : Shape := ⟨4, ![32, 2048, 4, 128]⟩
abbrev S2048 : Shape := ⟨1, ![2048]⟩
abbrev S32x2048x1x128 : Shape := ⟨4, ![32, 2048, 1, 128]⟩
abbrev S32x2048x128 : Shape := ⟨3, ![32, 2048, 128]⟩
abbrev S1x2048x1 : Shape := ⟨3, ![1, 2048, 1]⟩
abbrev S4x128x32x2048 : Shape := ⟨4, ![4, 128, 32, 2048]⟩
abbrev S4x128 : Shape := ⟨2, ![4, 128]⟩
abbrev S1x1x4x128 : Shape := ⟨4, ![1, 1, 4, 128]⟩
abbrev S32x2078x512 : Shape := ⟨3, ![32, 2078, 512]⟩
abbrev S1x512 : Shape := ⟨2, ![1, 512]⟩
abbrev S1x1x512 : Shape := ⟨3, ![1, 1, 512]⟩

abbrev nBuf : Space → Nat
  | .hbm => 380
  | .vmem => 0
  | .smem => 0
  | _ => 0

abbrev hbmTy0_0 (i : Nat) : BufTy := match i % 128 with
  | 0 => ⟨S32x2048x1024, .f32⟩
  | 1 => ⟨S1024, .f32⟩
  | 2 => ⟨S1024x1536, .f32⟩
  | 3 => ⟨S4x128x128, .f32⟩
  | 4 => ⟨S512, .f32⟩
  | 5 => ⟨S31x512, .f32⟩
  | 6 => ⟨S512, .f32⟩
  | 7 => ⟨S512, .f32⟩
  | 8 => ⟨S512, .f32⟩
  | 9 => ⟨S1024x1024, .f32⟩
  | 10 => ⟨S32x2048x1024, .f32⟩
  | 11 => ⟨S_, .f32⟩
  | 12 => ⟨S32x2048, .f32⟩
  | 13 => ⟨S32x2048x1, .f32⟩
  | 14 => ⟨S_, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x1, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S32x2048x1536, .f32⟩
  | 27 => ⟨S32x2048x512, .f32⟩
  | 28 => ⟨S32x2048x512, .f32⟩
  | 29 => ⟨S32x2048x512, .f32⟩
  | 30 => ⟨S32x2048x4x128, .f32⟩
  | 31 => ⟨S2048, .i32⟩
  | 32 => ⟨S32x2048x1x128, .f32⟩
  | 33 => ⟨S32x2048x128, .f32⟩
  | 34 => ⟨S_, .f32⟩
  | 35 => ⟨S_, .f32⟩
  | 36 => ⟨S32x2048x128, .f32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S2048, .f32⟩
  | 44 => ⟨S1x2048x1, .f32⟩
  | 45 => ⟨S32x2048x128, .f32⟩
  | 46 => ⟨S32x2048x128, .f32⟩
  | 47 => ⟨S32x2048x1x128, .f32⟩
  | 48 => ⟨S32x2048x128, .f32⟩
  | 49 => ⟨S_, .f32⟩
  | 50 => ⟨S_, .f32⟩
  | 51 => ⟨S32x2048x128, .f32⟩
  | 52 => ⟨S_, .i32⟩
  | 53 => ⟨S2048, .i32⟩
  | 54 => ⟨S2048, .i32⟩
  | 55 => ⟨S_, .i32⟩
  | 56 => ⟨S2048, .i32⟩
  | 57 => ⟨S2048, .i32⟩
  | 58 => ⟨S2048, .f32⟩
  | 59 => ⟨S1x2048x1, .f32⟩
  | 60 => ⟨S32x2048x128, .f32⟩
  | 61 => ⟨S32x2048x128, .f32⟩
  | 62 => ⟨S32x2048x1x128, .f32⟩
  | 63 => ⟨S32x2048x128, .f32⟩
  | 64 => ⟨S_, .f32⟩
  | 65 => ⟨S_, .f32⟩
  | 66 => ⟨S32x2048x128, .f32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S2048, .f32⟩
  | 74 => ⟨S1x2048x1, .f32⟩
  | 75 => ⟨S32x2048x128, .f32⟩
  | 76 => ⟨S32x2048x128, .f32⟩
  | 77 => ⟨S32x2048x1x128, .f32⟩
  | 78 => ⟨S32x2048x128, .f32⟩
  | 79 => ⟨S_, .f32⟩
  | 80 => ⟨S_, .f32⟩
  | 81 => ⟨S32x2048x128, .f32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S2048, .f32⟩
  | 89 => ⟨S1x2048x1, .f32⟩
  | 90 => ⟨S32x2048x128, .f32⟩
  | 91 => ⟨S32x2048x128, .f32⟩
  | 92 => ⟨S32x2048x1x128, .f32⟩
  | 93 => ⟨S32x2048x1x128, .f32⟩
  | 94 => ⟨S32x2048x1x128, .f32⟩
  | 95 => ⟨S32x2048x1x128, .f32⟩
  | 96 => ⟨S32x2048x4x128, .f32⟩
  | 97 => ⟨S32x2048x4x128, .f32⟩
  | 98 => ⟨S4x128x32x2048, .f32⟩
  | 99 => ⟨S32x2048x4x128, .f32⟩
  | 100 => ⟨S4x128, .f32⟩
  | 101 => ⟨S1x1x4x128, .f32⟩
  | 102 => ⟨S32x2048x4x128, .f32⟩
  | 103 => ⟨S32x2048x4x128, .f32⟩
  | 104 => ⟨S32x2048x512, .f32⟩
  | 105 => ⟨S32x2048x512, .f32⟩
  | 106 => ⟨S32x2048x512, .f32⟩
  | 107 => ⟨S_, .f32⟩
  | 108 => ⟨S32x2048x512, .f32⟩
  | 109 => ⟨S32x2048x512, .f32⟩
  | 110 => ⟨S_, .f32⟩
  | 111 => ⟨S32x2048x512, .f32⟩
  | 112 => ⟨S32x2048x512, .f32⟩
  | 113 => ⟨S32x2048x512, .f32⟩
  | 114 => ⟨S_, .i32⟩
  | 115 => ⟨S_, .f32⟩
  | 116 => ⟨S32x2078x512, .f32⟩
  | 117 => ⟨S32x2048x512, .f32⟩
  | 118 => ⟨S1x512, .f32⟩
  | 119 => ⟨S512, .f32⟩
  | 120 => ⟨S1x1x512, .f32⟩
  | 121 => ⟨S32x2048x512, .f32⟩
  | 122 => ⟨S32x2048x512, .f32⟩
  | 123 => ⟨S_, .f32⟩
  | 124 => ⟨S32x2048x512, .f32⟩
  | 125 => ⟨S32x2048x512, .f32⟩
  | 126 => ⟨S32x2048x512, .f32⟩
  | 127 => ⟨S1x512, .f32⟩
  | _ => ⟨S32x2048x1024, .f32⟩

abbrev hbmTy0_1 (i : Nat) : BufTy := match i % 128 with
  | 0 => ⟨S512, .f32⟩
  | 1 => ⟨S1x1x512, .f32⟩
  | 2 => ⟨S32x2048x512, .f32⟩
  | 3 => ⟨S32x2048x512, .f32⟩
  | 4 => ⟨S32x2048x512, .f32⟩
  | 5 => ⟨S32x2048x512, .f32⟩
  | 6 => ⟨S1x512, .f32⟩
  | 7 => ⟨S512, .f32⟩
  | 8 => ⟨S1x1x512, .f32⟩
  | 9 => ⟨S32x2048x512, .f32⟩
  | 10 => ⟨S32x2048x512, .f32⟩
  | 11 => ⟨S32x2048x512, .f32⟩
  | 12 => ⟨S32x2048x512, .f32⟩
  | 13 => ⟨S1x512, .f32⟩
  | 14 => ⟨S512, .f32⟩
  | 15 => ⟨S1x1x512, .f32⟩
  | 16 => ⟨S32x2048x512, .f32⟩
  | 17 => ⟨S32x2048x512, .f32⟩
  | 18 => ⟨S32x2048x512, .f32⟩
  | 19 => ⟨S32x2048x512, .f32⟩
  | 20 => ⟨S1x512, .f32⟩
  | 21 => ⟨S512, .f32⟩
  | 22 => ⟨S1x1x512, .f32⟩
  | 23 => ⟨S32x2048x512, .f32⟩
  | 24 => ⟨S32x2048x512, .f32⟩
  | 25 => ⟨S32x2048x512, .f32⟩
  | 26 => ⟨S32x2048x512, .f32⟩
  | 27 => ⟨S1x512, .f32⟩
  | 28 => ⟨S512, .f32⟩
  | 29 => ⟨S1x1x512, .f32⟩
  | 30 => ⟨S32x2048x512, .f32⟩
  | 31 => ⟨S32x2048x512, .f32⟩
  | 32 => ⟨S32x2048x512, .f32⟩
  | 33 => ⟨S32x2048x512, .f32⟩
  | 34 => ⟨S1x512, .f32⟩
  | 35 => ⟨S512, .f32⟩
  | 36 => ⟨S1x1x512, .f32⟩
  | 37 => ⟨S32x2048x512, .f32⟩
  | 38 => ⟨S32x2048x512, .f32⟩
  | 39 => ⟨S32x2048x512, .f32⟩
  | 40 => ⟨S32x2048x512, .f32⟩
  | 41 => ⟨S1x512, .f32⟩
  | 42 => ⟨S512, .f32⟩
  | 43 => ⟨S1x1x512, .f32⟩
  | 44 => ⟨S32x2048x512, .f32⟩
  | 45 => ⟨S32x2048x512, .f32⟩
  | 46 => ⟨S32x2048x512, .f32⟩
  | 47 => ⟨S32x2048x512, .f32⟩
  | 48 => ⟨S1x512, .f32⟩
  | 49 => ⟨S512, .f32⟩
  | 50 => ⟨S1x1x512, .f32⟩
  | 51 => ⟨S32x2048x512, .f32⟩
  | 52 => ⟨S32x2048x512, .f32⟩
  | 53 => ⟨S32x2048x512, .f32⟩
  | 54 => ⟨S32x2048x512, .f32⟩
  | 55 => ⟨S1x512, .f32⟩
  | 56 => ⟨S512, .f32⟩
  | 57 => ⟨S1x1x512, .f32⟩
  | 58 => ⟨S32x2048x512, .f32⟩
  | 59 => ⟨S32x2048x512, .f32⟩
  | 60 => ⟨S32x2048x512, .f32⟩
  | 61 => ⟨S32x2048x512, .f32⟩
  | 62 => ⟨S1x512, .f32⟩
  | 63 => ⟨S512, .f32⟩
  | 64 => ⟨S1x1x512, .f32⟩
  | 65 => ⟨S32x2048x512, .f32⟩
  | 66 => ⟨S32x2048x512, .f32⟩
  | 67 => ⟨S32x2048x512, .f32⟩
  | 68 => ⟨S32x2048x512, .f32⟩
  | 69 => ⟨S1x512, .f32⟩
  | 70 => ⟨S512, .f32⟩
  | 71 => ⟨S1x1x512, .f32⟩
  | 72 => ⟨S32x2048x512, .f32⟩
  | 73 => ⟨S32x2048x512, .f32⟩
  | 74 => ⟨S32x2048x512, .f32⟩
  | 75 => ⟨S32x2048x512, .f32⟩
  | 76 => ⟨S1x512, .f32⟩
  | 77 => ⟨S512, .f32⟩
  | 78 => ⟨S1x1x512, .f32⟩
  | 79 => ⟨S32x2048x512, .f32⟩
  | 80 => ⟨S32x2048x512, .f32⟩
  | 81 => ⟨S32x2048x512, .f32⟩
  | 82 => ⟨S32x2048x512, .f32⟩
  | 83 => ⟨S1x512, .f32⟩
  | 84 => ⟨S512, .f32⟩
  | 85 => ⟨S1x1x512, .f32⟩
  | 86 => ⟨S32x2048x512, .f32⟩
  | 87 => ⟨S32x2048x512, .f32⟩
  | 88 => ⟨S32x2048x512, .f32⟩
  | 89 => ⟨S32x2048x512, .f32⟩
  | 90 => ⟨S1x512, .f32⟩
  | 91 => ⟨S512, .f32⟩
  | 92 => ⟨S1x1x512, .f32⟩
  | 93 => ⟨S32x2048x512, .f32⟩
  | 94 => ⟨S32x2048x512, .f32⟩
  | 95 => ⟨S32x2048x512, .f32⟩
  | 96 => ⟨S32x2048x512, .f32⟩
  | 97 => ⟨S1x512, .f32⟩
  | 98 => ⟨S512, .f32⟩
  | 99 => ⟨S1x1x512, .f32⟩
  | 100 => ⟨S32x2048x512, .f32⟩
  | 101 => ⟨S32x2048x512, .f32⟩
  | 102 => ⟨S32x2048x512, .f32⟩
  | 103 => ⟨S32x2048x512, .f32⟩
  | 104 => ⟨S1x512, .f32⟩
  | 105 => ⟨S512, .f32⟩
  | 106 => ⟨S1x1x512, .f32⟩
  | 107 => ⟨S32x2048x512, .f32⟩
  | 108 => ⟨S32x2048x512, .f32⟩
  | 109 => ⟨S32x2048x512, .f32⟩
  | 110 => ⟨S32x2048x512, .f32⟩
  | 111 => ⟨S1x512, .f32⟩
  | 112 => ⟨S512, .f32⟩
  | 113 => ⟨S1x1x512, .f32⟩
  | 114 => ⟨S32x2048x512, .f32⟩
  | 115 => ⟨S32x2048x512, .f32⟩
  | 116 => ⟨S32x2048x512, .f32⟩
  | 117 => ⟨S32x2048x512, .f32⟩
  | 118 => ⟨S1x512, .f32⟩
  | 119 => ⟨S512, .f32⟩
  | 120 => ⟨S1x1x512, .f32⟩
  | 121 => ⟨S32x2048x512, .f32⟩
  | 122 => ⟨S32x2048x512, .f32⟩
  | 123 => ⟨S32x2048x512, .f32⟩
  | 124 => ⟨S32x2048x512, .f32⟩
  | 125 => ⟨S1x512, .f32⟩
  | 126 => ⟨S512, .f32⟩
  | 127 => ⟨S1x1x512, .f32⟩
  | _ => ⟨S32x2048x1024, .f32⟩

abbrev hbmTy0_2 (i : Nat) : BufTy := match i % 128 with
  | 0 => ⟨S32x2048x512, .f32⟩
  | 1 => ⟨S32x2048x512, .f32⟩
  | 2 => ⟨S32x2048x512, .f32⟩
  | 3 => ⟨S32x2048x512, .f32⟩
  | 4 => ⟨S1x512, .f32⟩
  | 5 => ⟨S512, .f32⟩
  | 6 => ⟨S1x1x512, .f32⟩
  | 7 => ⟨S32x2048x512, .f32⟩
  | 8 => ⟨S32x2048x512, .f32⟩
  | 9 => ⟨S32x2048x512, .f32⟩
  | 10 => ⟨S32x2048x512, .f32⟩
  | 11 => ⟨S1x512, .f32⟩
  | 12 => ⟨S512, .f32⟩
  | 13 => ⟨S1x1x512, .f32⟩
  | 14 => ⟨S32x2048x512, .f32⟩
  | 15 => ⟨S32x2048x512, .f32⟩
  | 16 => ⟨S32x2048x512, .f32⟩
  | 17 => ⟨S32x2048x512, .f32⟩
  | 18 => ⟨S1x512, .f32⟩
  | 19 => ⟨S512, .f32⟩
  | 20 => ⟨S1x1x512, .f32⟩
  | 21 => ⟨S32x2048x512, .f32⟩
  | 22 => ⟨S32x2048x512, .f32⟩
  | 23 => ⟨S32x2048x512, .f32⟩
  | 24 => ⟨S32x2048x512, .f32⟩
  | 25 => ⟨S1x512, .f32⟩
  | 26 => ⟨S512, .f32⟩
  | 27 => ⟨S1x1x512, .f32⟩
  | 28 => ⟨S32x2048x512, .f32⟩
  | 29 => ⟨S32x2048x512, .f32⟩
  | 30 => ⟨S32x2048x512, .f32⟩
  | 31 => ⟨S32x2048x512, .f32⟩
  | 32 => ⟨S1x512, .f32⟩
  | 33 => ⟨S512, .f32⟩
  | 34 => ⟨S1x1x512, .f32⟩
  | 35 => ⟨S32x2048x512, .f32⟩
  | 36 => ⟨S32x2048x512, .f32⟩
  | 37 => ⟨S32x2048x512, .f32⟩
  | 38 => ⟨S32x2048x512, .f32⟩
  | 39 => ⟨S1x512, .f32⟩
  | 40 => ⟨S512, .f32⟩
  | 41 => ⟨S1x1x512, .f32⟩
  | 42 => ⟨S32x2048x512, .f32⟩
  | 43 => ⟨S32x2048x512, .f32⟩
  | 44 => ⟨S32x2048x512, .f32⟩
  | 45 => ⟨S32x2048x512, .f32⟩
  | 46 => ⟨S1x512, .f32⟩
  | 47 => ⟨S512, .f32⟩
  | 48 => ⟨S1x1x512, .f32⟩
  | 49 => ⟨S32x2048x512, .f32⟩
  | 50 => ⟨S32x2048x512, .f32⟩
  | 51 => ⟨S32x2048x512, .f32⟩
  | 52 => ⟨S32x2048x512, .f32⟩
  | 53 => ⟨S1x512, .f32⟩
  | 54 => ⟨S512, .f32⟩
  | 55 => ⟨S1x1x512, .f32⟩
  | 56 => ⟨S32x2048x512, .f32⟩
  | 57 => ⟨S32x2048x512, .f32⟩
  | 58 => ⟨S32x2048x512, .f32⟩
  | 59 => ⟨S32x2048x512, .f32⟩
  | 60 => ⟨S1x512, .f32⟩
  | 61 => ⟨S512, .f32⟩
  | 62 => ⟨S1x1x512, .f32⟩
  | 63 => ⟨S32x2048x512, .f32⟩
  | 64 => ⟨S32x2048x512, .f32⟩
  | 65 => ⟨S32x2048x512, .f32⟩
  | 66 => ⟨S32x2048x512, .f32⟩
  | 67 => ⟨S1x512, .f32⟩
  | 68 => ⟨S512, .f32⟩
  | 69 => ⟨S1x1x512, .f32⟩
  | 70 => ⟨S32x2048x512, .f32⟩
  | 71 => ⟨S32x2048x512, .f32⟩
  | 72 => ⟨S32x2048x512, .f32⟩
  | 73 => ⟨S32x2048x512, .f32⟩
  | 74 => ⟨S1x512, .f32⟩
  | 75 => ⟨S512, .f32⟩
  | 76 => ⟨S1x1x512, .f32⟩
  | 77 => ⟨S32x2048x512, .f32⟩
  | 78 => ⟨S32x2048x512, .f32⟩
  | 79 => ⟨S32x2048x512, .f32⟩
  | 80 => ⟨S1x1x512, .f32⟩
  | 81 => ⟨S32x2048x512, .f32⟩
  | 82 => ⟨S32x2048x512, .f32⟩
  | 83 => ⟨S_, .f32⟩
  | 84 => ⟨S32x2048, .f32⟩
  | 85 => ⟨S32x2048x1, .f32⟩
  | 86 => ⟨S_, .f32⟩
  | 87 => ⟨S32x2048x1, .f32⟩
  | 88 => ⟨S32x2048x1, .f32⟩
  | 89 => ⟨S32x2048x512, .f32⟩
  | 90 => ⟨S32x2048x512, .f32⟩
  | 91 => ⟨S32x2048x512, .f32⟩
  | 92 => ⟨S_, .f32⟩
  | 93 => ⟨S32x2048, .f32⟩
  | 94 => ⟨S32x2048x1, .f32⟩
  | 95 => ⟨S_, .f32⟩
  | 96 => ⟨S32x2048x1, .f32⟩
  | 97 => ⟨S32x2048x1, .f32⟩
  | 98 => ⟨S32x2048x512, .f32⟩
  | 99 => ⟨S32x2048x512, .f32⟩
  | 100 => ⟨S_, .f32⟩
  | 101 => ⟨S32x2048x1, .f32⟩
  | 102 => ⟨S32x2048x1, .f32⟩
  | 103 => ⟨S32x2048x1, .f32⟩
  | 104 => ⟨S32x2048x512, .f32⟩
  | 105 => ⟨S32x2048x512, .f32⟩
  | 106 => ⟨S1x1x512, .f32⟩
  | 107 => ⟨S32x2048x512, .f32⟩
  | 108 => ⟨S32x2048x512, .f32⟩
  | 109 => ⟨S1x1x512, .f32⟩
  | 110 => ⟨S32x2048x512, .f32⟩
  | 111 => ⟨S32x2048x512, .f32⟩
  | 112 => ⟨S32x2048x512, .f32⟩
  | 113 => ⟨S32x2048x512, .f32⟩
  | 114 => ⟨S_, .f32⟩
  | 115 => ⟨S32x2048x512, .f32⟩
  | 116 => ⟨S32x2048x512, .f32⟩
  | 117 => ⟨S_, .f32⟩
  | 118 => ⟨S32x2048x512, .f32⟩
  | 119 => ⟨S32x2048x512, .f32⟩
  | 120 => ⟨S32x2048x512, .f32⟩
  | 121 => ⟨S32x2048x1024, .f32⟩
  | 122 => ⟨S32x2048x1024, .f32⟩
  | 123 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_15 : Ref sig .tc := ⟨.hbm, 114, rfl⟩
abbrev main_call0_v0 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_16 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_cst_17 : Ref sig .tc := ⟨.hbm, 339, rfl⟩
abbrev main_v309 : Ref sig .tc := ⟨.hbm, 340, rfl⟩
abbrev main_v310 : Ref sig .tc := ⟨.hbm, 341, rfl⟩
abbrev main_cst_18 : Ref sig .tc := ⟨.hbm, 342, rfl⟩
abbrev main_v311 : Ref sig .tc := ⟨.hbm, 343, rfl⟩
abbrev main_v312 : Ref sig .tc := ⟨.hbm, 344, rfl⟩
abbrev main_v313 : Ref sig .tc := ⟨.hbm, 345, rfl⟩
abbrev main_v314 : Ref sig .tc := ⟨.hbm, 346, rfl⟩
abbrev main_v315 : Ref sig .tc := ⟨.hbm, 347, rfl⟩
abbrev main_cst_19 : Ref sig .tc := ⟨.hbm, 348, rfl⟩
abbrev main_v316 : Ref sig .tc := ⟨.hbm, 349, rfl⟩
abbrev main_v317 : Ref sig .tc := ⟨.hbm, 350, rfl⟩
abbrev main_cst_20 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_cst_21 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_call1_v0 : Ref sig .tc := ⟨.hbm, 368, rfl⟩
abbrev main_call1_v1 : Ref sig .tc := ⟨.hbm, 369, rfl⟩
abbrev main_call1_cst : Ref sig .tc := ⟨.hbm, 370, rfl⟩
abbrev main_call1_v2 : Ref sig .tc := ⟨.hbm, 371, rfl⟩
abbrev main_call1_v3 : Ref sig .tc := ⟨.hbm, 372, rfl⟩
abbrev main_call1_cst_0 : Ref sig .tc := ⟨.hbm, 373, rfl⟩
abbrev main_call1_v4 : Ref sig .tc := ⟨.hbm, 374, rfl⟩
abbrev main_call1_v5 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩

abbrev nD : Nat := 1
abbrev τ : Topo := Topo.v7x

variable {F : FTy → Type} [FloatOps F]
-- ==== Ffn.lean ====
abbrev S32x2048x1024 : Shape := ⟨3, ![32, 2048, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32x2048x1024 : Shape := ⟨3, ![32, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S_, .f32⟩
  | .hbm, ⟨26, _⟩ => ⟨S32x2048x2816, .f32⟩
  | .hbm, ⟨27, _⟩ => ⟨S32x2048x2816, .f32⟩
  | .hbm, ⟨28, _⟩ => ⟨S_, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S32x2048x1024, .f32⟩
  | .hbm, ⟨35, _⟩ => ⟨S_, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== FfnLast.lean ====
abbrev S32x2048x1024 : Shape := ⟨3, ![32, 2048, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnLastRefIdeal.lean ====
abbrev S32x2048x1024 : Shape := ⟨3, ![32, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S_, .f32⟩
  | .hbm, ⟨26, _⟩ => ⟨S32x2048x2816, .f32⟩
  | .hbm, ⟨27, _⟩ => ⟨S32x2048x2816, .f32⟩
  | .hbm, ⟨28, _⟩ => ⟨S_, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S32x2048x1024, .f32⟩
  | .hbm, ⟨35, _⟩ => ⟨S_, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x2048, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S_, .f32⟩
  | .hbm, ⟨47, _⟩ => ⟨S32x2048x1, .f32⟩
  | .hbm, ⟨48, _⟩ => ⟨S32x2048x1, .f32⟩
  | .hbm, ⟨49, _⟩ => ⟨S32x2048x1, .f32⟩
  | .hbm, ⟨50, _⟩ => ⟨S32x2048x1024, .f32⟩
  | .hbm, ⟨51, _⟩ => ⟨S32x2048x1024, .f32⟩
  | .hbm, ⟨52, _⟩ => ⟨S1x1x1024, .f32⟩
  | .hbm, ⟨53, _⟩ => ⟨S32x2048x1024, .f32⟩
  | .hbm, ⟨54, _⟩ => ⟨S32x2048x1024, .f32⟩
  | .hbm, ⟨55, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Cin.lean ====
abbrev S32x2048x1024 : Shape := ⟨3, ![32, 2048, 1024]⟩
abbrev S1024 : Shape := ⟨1, ![1024]⟩
abbrev S1024x3656 : Shape := ⟨2, ![1024, 3656]⟩
abbrev S1024x1024 : Shape := ⟨2, ![1024, 1024]⟩
abbrev S1024x512 : Shape := ⟨2, ![1024, 512]⟩
abbrev S1024x64 : Shape := ⟨2, ![1024, 64]⟩
abbrev S1024x8 : Shape := ⟨2, ![1024, 8]⟩
abbrev S1024x1088 : Shape := ⟨2, ![1024, 1088]⟩
abbrev S1024x2560 : Shape := ⟨2, ![1024, 2560]⟩
abbrev S2560x1024 : Shape := ⟨2, ![2560, 1024]⟩
abbrev S1x1024 : Shape := ⟨2, ![1, 1024]⟩
abbrev S8x1024 : Shape := ⟨2, ![8, 1024]⟩
abbrev S32x8x2048x128 : Shape := ⟨4, ![32, 8, 2048, 128]⟩
abbrev S32x2048x64 : Shape := ⟨3, ![32, 2048, 64]⟩
abbrev S32x1024x2048 : Shape := ⟨3, ![32, 1024, 2048]⟩
abbrev S32x8x1024x256 : Shape := ⟨4, ![32, 8, 1024, 256]⟩
abbrev S32x512x2048 : Shape := ⟨3, ![32, 512, 2048]⟩
abbrev S32x8x2048 : Shape := ⟨3, ![32, 8, 2048]⟩
abbrev S1x512x1024 : Shape := ⟨3, ![1, 512, 1024]⟩
abbrev S1x8x512x128 : Shape := ⟨4, ![1, 8, 512, 128]⟩
abbrev S1x512x64 : Shape := ⟨3, ![1, 512, 64]⟩
abbrev S1x1024x512 : Shape := ⟨3, ![1, 1024, 512]⟩
abbrev S1x2x1024x256 : Shape := ⟨4, ![1, 2, 1024, 256]⟩
abbrev S1x512x512 : Shape := ⟨3, ![1, 512, 512]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S512x1088 : Shape := ⟨2, ![512, 1088]⟩
abbrev S512x128 : Shape := ⟨2, ![512, 128]⟩
abbrev S1x1x512x128 : Shape := ⟨4, ![1, 1, 512, 128]⟩
abbrev S512x64 : Shape := ⟨2, ![512, 64]⟩
abbrev S2560x512 : Shape := ⟨2, ![2560, 512]⟩
abbrev S1024x256 : Shape := ⟨2, ![1024, 256]⟩
abbrev S1x1x1024x256 : Shape := ⟨4, ![1, 1, 1024, 256]⟩
abbrev S512x512 : Shape := ⟨2, ![512, 512]⟩
abbrev S8x512 : Shape := ⟨2, ![8, 512]⟩

abbrev nBuf : Space → Nat
  | .hbm => 23
  | .vmem => 18
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3656, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x512, .f32⟩
  | .hbm, ⟨7, _⟩ => ⟨S1024x64, .f32⟩
  | .hbm, ⟨8, _⟩ => ⟨S1024x8, .f32⟩
  | .hbm, ⟨9, _⟩ => ⟨S1024x1088, .f32⟩
  | .hbm, ⟨10, _⟩ => ⟨S1024x1088, .bf16⟩
  | .hbm, ⟨11, _⟩ => ⟨S1024x2560, .f32⟩
  | .hbm, ⟨12, _⟩ => ⟨S2560x1024, .f32⟩
  | .hbm, ⟨13, _⟩ => ⟨S2560x1024, .bf16⟩
  | .hbm, ⟨14, _⟩ => ⟨S1x1024, .f32⟩
  | .hbm, ⟨15, _⟩ => ⟨S8x1024, .f32⟩
  | .hbm, ⟨16, _⟩ => ⟨S8x1024, .bf16⟩
  | .hbm, ⟨17, _⟩ => ⟨S32x8x2048x128, .bf16⟩
  | .hbm, ⟨18, _⟩ => ⟨S32x2048x64, .bf16⟩
  | .hbm, ⟨19, _⟩ => ⟨S32x1024x2048, .bf16⟩
  | .hbm, ⟨20, _⟩ => ⟨S32x8x1024x256, .bf16⟩
  | .hbm, ⟨21, _⟩ => ⟨S32x512x2048, .bf16⟩
  | .hbm, ⟨22, _⟩ => ⟨S32x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1088, .bf16⟩
  | .local _ .vmem, ⟨4, _⟩ => ⟨S2560x1024, .bf16⟩
  | .local _ .vmem, ⟨5, _⟩ => ⟨S8x1024, .bf16⟩
  | .local _ .vmem, ⟨6, _⟩ => ⟨S1x8x512x128, .bf16⟩
  | .local _ .vmem, ⟨7, _⟩ => ⟨S1x8x512x128, .bf16⟩
  | .local _ .vmem, ⟨8, _⟩ => ⟨S1x512x64, .bf16⟩
  | .local _ .vmem, ⟨9, _⟩ => ⟨S1x512x64, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x2x1024x256, .bf16⟩
  | .local _ .vmem, ⟨13, _⟩ => ⟨S1x2x1024x256, .bf16⟩
  | .local _ .vmem, ⟨14, _⟩ => ⟨S1x512x512, .bf16⟩
  | .local _ .vmem, ⟨15, _⟩ => ⟨S1x512x512, .bf16⟩
  | .local _ .vmem, ⟨16, _⟩ => ⟨S1x8x512, .f32⟩
  | .local _ .vmem, ⟨17, _⟩ => ⟨S1x8x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v14_2 : Ref sig .tc := ⟨.hbm, 19, rfl⟩
abbrev main_v14_3 : Ref sig .tc := ⟨.hbm, 20, rfl⟩
abbrev main_v14_4 : Ref sig .tc := ⟨.hbm, 21, rfl⟩
abbrev main_v14_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1088 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== CinRefIdeal.lean ====
abbrev S32x2048x1024 : Shape := ⟨3, ![32, 2048, 1024]⟩
abbrev S1024 : Shape := ⟨1, ![1024]⟩
abbrev S1024x3656 : Shape := ⟨2, ![1024, 3656]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3656 : Shape := ⟨3, ![32, 2048, 3656]⟩
abbrev S32x2048x512 : Shape := ⟨3, ![32, 2048, 512]⟩
abbrev S32x2048x64 : Shape := ⟨3, ![32, 2048, 64]⟩
abbrev S32x2048x8 : Shape := ⟨3, ![32, 2048, 8]⟩
abbrev S32x2048x8x128 : Shape := ⟨4, ![32, 2048, 8, 128]⟩
abbrev S32x8x2048x128 : Shape := ⟨4, ![32, 8, 2048, 128]⟩
abbrev S32x8x256x1024 : Shape := ⟨4, ![32, 8, 256, 1024]⟩
abbrev S32x8x1024x256 : Shape := ⟨4, ![32, 8, 1024, 256]⟩
abbrev S32x1024x2048 : Shape := ⟨3, ![32, 1024, 2048]⟩
abbrev S32x512x2048 : Shape := ⟨3, ![32, 512, 2048]⟩
abbrev S32x8x2048 : Shape := ⟨3, ![32, 8, 2048]⟩

abbrev nBuf : Space → Nat
  | .hbm => 41
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3656, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S_, .f32⟩
  | .hbm, ⟨8, _⟩ => ⟨S32x2048x1, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x3656, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x512, .f32⟩
  | .hbm, ⟨24, _⟩ => ⟨S32x2048x64, .f32⟩
  | .hbm, ⟨25, _⟩ => ⟨S32x2048x8, .f32⟩
  | .hbm, ⟨26, _⟩ => ⟨S32x2048x8x128, .f32⟩
  | .hbm, ⟨27, _⟩ => ⟨S32x8x2048x128, .f32⟩
  | .hbm, ⟨28, _⟩ => ⟨S32x8x256x1024, .f32⟩
  | .hbm, ⟨29, _⟩ => ⟨S32x8x1024x256, .f32⟩
  | .hbm, ⟨30, _⟩ => ⟨S32x8x2048x128, .bf16⟩
  | .hbm, ⟨31, _⟩ => ⟨S32x2048x64, .bf16⟩
  | .hbm, ⟨32, _⟩ => ⟨S_, .f32⟩
  | .hbm, ⟨33, _⟩ => ⟨S32x2048x1024, .f32⟩
  | .hbm, ⟨34, _⟩ => ⟨S32x2048x1024, .f32⟩
  | .hbm, ⟨35, _⟩ => ⟨S32x1024x2048, .f32⟩
  | .hbm, ⟨36, _⟩ => ⟨S32x1024x2048, .bf16⟩
  | .hbm, ⟨37, _⟩ => ⟨S32x8x1024x256, .bf16⟩
  | .hbm, ⟨38, _⟩ => ⟨S32x512x2048, .f32⟩
  | .hbm, ⟨39, _⟩ => ⟨S32x512x2048, .bf16⟩
  | .hbm, ⟨40, _⟩ => ⟨S32x8x2048, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Bias.lean ====
abbrev S32x16 : Shape := ⟨2, ![32, 16]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S1x256x256 : Shape := ⟨3, ![1, 256, 256]⟩
abbrev S2x256x256 : Shape := ⟨3, ![2, 256, 256]⟩
abbrev S2x16x256x256 : Shape := ⟨4, ![2, 16, 256, 256]⟩
abbrev S1x1x256x256 : Shape := ⟨4, ![1, 1, 256, 256]⟩
abbrev S1x1 : Shape := ⟨2, ![1, 1]⟩

abbrev nBuf : Space → Nat
  | .hbm => 77
  | .vmem => 4
  | .smem => 1
  | _ => 0

abbrev bufTy : (tb : Table) → Fin (tcTables nBuf tb) → BufTy
  | .hbm, ⟨0, _⟩ => ⟨S32x16, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S1x256, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i1⟩
  | .hbm, ⟨38, _⟩ => ⟨S256x256, .i32⟩
  | .hbm, ⟨39, _⟩ => ⟨S_, .i32⟩
  | .hbm, ⟨40, _⟩ => ⟨S1x256, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i32⟩
  | .hbm, ⟨45, _⟩ => ⟨S_, .i32⟩
  | .hbm, ⟨46, _⟩ => ⟨S256x256, .i32⟩
  | .hbm, ⟨47, _⟩ => ⟨S256x256, .i32⟩
  | .hbm, ⟨48, _⟩ => ⟨S_, .i32⟩
  | .hbm, ⟨49, _⟩ => ⟨S256x256, .i32⟩
  | .hbm, ⟨50, _⟩ => ⟨S256x256, .i32⟩
  | .hbm, ⟨51, _⟩ => ⟨S256x256, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S256x256, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i32⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S256x256, .i32⟩
  | .hbm, ⟨73, _⟩ => ⟨S1x256x256, .i32⟩
  | .hbm, ⟨74, _⟩ => ⟨S1x256x256, .i32⟩
  | .hbm, ⟨75, _⟩ => ⟨S2x256x256, .i32⟩
  | .hbm, ⟨76, _⟩ => ⟨S2x16x256x256, .f32⟩
  | .local _ .vmem, ⟨0, _⟩ => ⟨S1x256x256, .i32⟩
  | .local _ .vmem, ⟨1, _⟩ => ⟨S1x256x256, .i32⟩
  | .local _ .vmem, ⟨2, _⟩ => ⟨S1x1x256x256, .f32⟩
  | .local _ .vmem, ⟨3, _⟩ => ⟨S1x1x256x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_8 : Ref sig .tc := ⟨.hbm, 45, rfl⟩
abbrev main_v34 : Ref sig .tc := ⟨.hbm, 46, rfl⟩
abbrev main_v35 : Ref sig .tc := ⟨.hbm, 47, rfl⟩
abbrev main_c_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_cst_12 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_13 : Ref sig .tc := ⟨.hbm, 63, rfl⟩
abbrev main_v47 : Ref sig .tc := ⟨.hbm, 64, rfl⟩
abbrev main_v48 : Ref sig .tc := ⟨.hbm, 65, rfl⟩
abbrev main_c_14 : Ref sig .tc := ⟨.hbm, 66, rfl⟩
abbrev main_v49 : Ref sig .tc := ⟨.hbm, 67, rfl⟩
abbrev main_v50 : Ref sig .tc := ⟨.hbm, 68, rfl⟩
abbrev main_c_15 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_2 : Index := 0#32
  let arg1 : BitVec 32 := BitVec.ofNat 32 (i 1).val
  let v5 : Index := Scalar.indexCast arg1
  ![0, v5.toNat]
def k0_off2 (i : grid0.Coords) : Fin 2 → Nat :=
  let c1 : Index := 1#32
  let arg1 : BitVec 32 := BitVec.ofNat 32 (i 1).val
  let v11 : Index := Scalar.indexCast arg1
  ![1, v11.toNat]
def k0_off3 (i : grid0.Coords) : Fin 2 → Nat :=
  let c2 : Index := 2#32
  let arg1 : BitVec 32 := BitVec.ofNat 32 (i 1).val
  let v17 : Index := Scalar.indexCast arg1
  ![2, v17.toNat]
def k0_off4 (i : grid0.Coords) : Fin 2 → Nat :=
  let c3 : Index := 3#32
  let arg1 : BitVec 32 := BitVec.ofNat 32 (i 1).val
  let v23 : Index := Scalar.indexCast arg1
  ![3, v23.toNat]
def k0_off5 (i : grid0.Coords) : Fin 2 → Nat :=
  let c4 : Index := 4#32
  let arg1 : BitVec 32 := BitVec.ofNat 32 (i 1).val
  let v29 : Index := Scalar.indexCast arg1
  ![4, v29.toNat]
def k0_off6 (i : grid0.Coords) : Fin 2 → Nat :=
  let c5 : Index := 5#32
  let arg1 : BitVec 32 := BitVec.ofNat 32 (i 1).val
  let v35 : Index := Scalar.indexCast arg1
  ![5, v35.toNat]
def k0_off7 (i : grid0.Coords) : Fin 2 → Nat :=
  let c6 : Index := 6#32
  let arg1 : BitVec 32 := BitVec.ofNat 32 (i 1).val
  let v41 : Index := Scalar.indexCast arg1
  ![6, v41.toNat]
def k0_off8 (i : grid0.Coords) : Fin 2 → Nat :=
  let c7 : Index := 7#32
  let arg1 : BitVec 32 := BitVec.ofNat 32 (i 1).val
  let v47 : Index := Scalar.indexCast arg1
  ![7, v47.toNat]
def k0_off9 (i : grid0.Coords) : Fin 2 → Nat :=
  let c8 : Index := 8#32
  let arg1 : BitVec 32 := BitVec.ofNat 32 (i 1).val
  let v53 : Index := Scalar.indexCast arg1
  ![8, v53.toNat]
def k0_off10 (i : grid0.Coords) : Fin 2 → Nat :=
  let c9 : Index := 9#32
  let arg1 : BitVec 32 := BitVec.ofNat 32 (i 1).val
  let v59 : Index := Scalar.indexCast arg1
  ![9, v59.toNat]
def k0_off11 (i : grid0.Coords) : Fin 2 → Nat :=
  let c10 : Index := 10#32
  let arg1 : BitVec 32 := BitVec.ofNat 32 (i 1).val
  let v65 : Index := Scalar.indexCast arg1
  ![10, v65.toNat]
def k0_off12 (i : grid0.Coords) : Fin 2 → Nat :=
  let c11 : Index := 11#32
  let arg1 : BitVec 32 := BitVec.ofNat 32 (i 1).val
  let v71 : Index := Scalar.indexCast arg1
  ![11, v71.toNat]
def k0_off13 (i : grid0.Coords) : Fin 2 → Nat :=
  let c12 : Index := 12#32
  let arg1 : BitVec 32 := BitVec.ofNat 32 (i 1).val
  let v77 : Index := Scalar.indexCast arg1
  ![12, v77.toNat]
def k0_off14 (i : grid0.Coords) : Fin 2 → Nat :=
  let c13 : Index := 13#32
  let arg1 : BitVec 32 := BitVec.ofNat 32 (i 1).val
  let v83 : Index := Scalar.indexCast arg1
  ![13, v83.toNat]
def k0_off15 (i : grid0.Coords) : Fin 2 → Nat :=
  let c14 : Index := 14#32
  let arg1 : BitVec 32 := BitVec.ofNat 32 (i 1).val
  let v89 : Index := Scalar.indexCast arg1
  ![14, v89.toNat]
def k0_off16 (i : grid0.Coords) : Fin 2 → Nat :=
  let c15 : Index := 15#32
  let arg1 : BitVec 32 := BitVec.ofNat 32 (i 1).val
  let v95 : Index := Scalar.indexCast arg1
  ![15, v95.toNat]
def k0_off17 (i : grid0.Coords) : Fin 2 → Nat :=
  let c16 : Index := 16#32
  let arg1 : BitVec 32 := BitVec.ofNat 32 (i 1).val
  let v101 : Index := Scalar.indexCast arg1
  ![16, v101.toNat]
def k0_off18 (i : grid0.Coords) : Fin 2 → Nat :=
  let c17 : Index := 17#32
  let arg1 : BitVec 32 := BitVec.ofNat 32 (i 1).val
  let v107 : Index := Scalar.indexCast arg1
  ![17, v107.toNat]
def k0_off19 (i : grid0.Coords) : Fin 2 → Nat :=
  let c18 : Index := 18#32
  let arg1 : BitVec 32 := BitVec.ofNat 32 (i 1).val
  let v113 : Index := Scalar.indexCast arg1
  ![18, v113.toNat]
def k0_off20 (i : grid0.Coords) : Fin 2 → Nat :=
  let c19 : Index := 19#32
  let arg1 : BitVec 32 := BitVec.ofNat 32 (i 1).val
  let v119 : Index := Scalar.indexCast arg1
  ![19, v119.toNat]
def k0_off21 (i : grid0.Coords) : Fin 2 → Nat :=
  let c20 : Index := 20#32
  let arg1 : BitVec 32 := BitVec.ofNat 32 (i 1).val
  let v125 : Index := Scalar.indexCast arg1
  ![20, v125.toNat]
def k0_off22 (i : grid0.Coords) : Fin 2 → Nat :=
  let c21 : Index := 21#32
  let arg1 : BitVec 32 := BitVec.ofNat 32 (i 1).val
  let v131 : Index := Scalar.indexCast arg1
  ![21, v131.toNat]
def k0_off23 (i : grid0.Coords) : Fin 2 → Nat :=
  let c22 : Index := 22#32
  let arg1 : BitVec 32 := BitVec.ofNat 32 (i 1).val
  let v137 : Index := Scalar.indexCast arg1
  ![22, v137.toNat]
def k0_off24 (i : grid0.Coords) : Fin 2 → Nat :=
  let c23 : Index := 23#32
  let arg1 : BitVec 32 := BitVec.ofNat 32 (i 1).val
  let v143 : Index := Scalar.indexCast arg1
  ![23, v143.toNat]
def k0_off25 (i : grid0.Coords) : Fin 2 → Nat :=
  let c24 : Index := 24#32
  let arg1 : BitVec 32 := BitVec.ofNat 32 (i 1).val
  let v149 : Index := Scalar.indexCast arg1
  ![24, v149.toNat]
def k0_off26 (i : grid0.Coords) : Fin 2 → Nat :=
  let c25 : Index := 25#32
  let arg1 : BitVec 32 := BitVec.ofNat 32 (i 1).val
  let v155 : Index := Scalar.indexCast arg1
  ![25, v155.toNat]
def k0_off27 (i : grid0.Coords) : Fin 2 → Nat :=
  let c26 : Index := 26#32
  let arg1 : BitVec 32 := BitVec.ofNat 32 (i 1).val
  let v161 : Index := Scalar.indexCast arg1
  ![26, v161.toNat]
def k0_off28 (i : grid0.Coords) : Fin 2 → Nat :=
  let c27 : Index := 27#32
  let arg1 : BitVec 32 := BitVec.ofNat 32 (i 1).val
  let v167 : Index := Scalar.indexCast arg1
  ![27, v167.toNat]
def k0_off29 (i : grid0.Coords) : Fin 2 → Nat :=
  let c28 : Index := 28#32
  let arg1 : BitVec 32 := BitVec.ofNat 32 (i 1).val
  let v173 : Index := Scalar.indexCast arg1
  ![28, v173.toNat]
def k0_off30 (i : grid0.Coords) : Fin 2 → Nat :=
  let c29 : Index := 29#32
  let arg1 : BitVec 32 := BitVec.ofNat 32 (i 1).val
  let v179 : Index := Scalar.indexCast arg1
  ![29, v179.toNat]
def k0_off31 (i : grid0.Coords) : Fin 2 → Nat :=
  let c30 : Index := 30#32
  let arg1 : BitVec 32 := BitVec.ofNat 32 (i 1).val
  let v185 : Index := Scalar.indexCast arg1
  ![30, v185.toNat]
def k0_off32 (i : grid0.Coords) : Fin 2 → Nat :=
  let c31 : Index := 31#32
  let arg1 : BitVec 32 := BitVec.ofNat 32 (i 1).val
  let v191 : Index := Scalar.indexCast arg1
  ![31, v191.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BiasRefIdeal.lean ====
abbrev S32x16 : Shape := ⟨2, ![32, 16]⟩
abbrev S2 : Shape := ⟨1, ![2]⟩
abbrev S2x1x1 : Shape := ⟨3, ![2, 1, 1]⟩
abbrev S256 : Shape := ⟨1, ![256]⟩
abbrev S1x256x1 : Shape := ⟨3, ![1, 256, 1]⟩
abbrev S1x1x256 : Shape := ⟨3, ![1, 1, 256]⟩
abbrev S_ : Shape := ⟨0, ![]⟩
abbrev S2x1x256 : Shape := ⟨3, ![2, 1, 256]⟩
abbrev S2x256x256 : Shape := ⟨3, ![2, 256, 256]⟩
abbrev S2x256x256x1 : Shape := ⟨4, ![2, 256, 256, 1]⟩
abbrev S2x256x256x16 : Shape := ⟨4, ![2, 256, 256, 16]⟩
abbrev S2x16x256x256 : Shape := ⟨4, ![2, 16, 256, 256]⟩

abbrev nBuf : Space → Nat
  | .hbm => 54
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S2, .i32⟩
  | .hbm, ⟨2, _⟩ => ⟨S2x1x1, .i32⟩
  | .hbm, ⟨3, _⟩ => ⟨S256, .i32⟩
  | .hbm, ⟨4, _⟩ => ⟨S1x256x1, .i32⟩
  | .hbm, ⟨5, _⟩ => ⟨S256, .i32⟩
  | .hbm, ⟨6, _⟩ => ⟨S1x1x256, .i32⟩
  | .hbm, ⟨7, _⟩ => ⟨S_, .i32⟩
  | .hbm, ⟨8, _⟩ => ⟨S2x1x1, .i32⟩
  | .hbm, ⟨9, _⟩ => ⟨S2x1x1, .i32⟩
  | .hbm, ⟨10, _⟩ => ⟨S2x1x256, .i32⟩
  | .hbm, ⟨11, _⟩ => ⟨S2x1x256, .i32⟩
  | .hbm, ⟨12, _⟩ => ⟨S2x1x256, .i32⟩
  | .hbm, ⟨13, _⟩ => ⟨S2x256x256, .i32⟩
  | .hbm, ⟨14, _⟩ => ⟨S2x256x256, .i32⟩
  | .hbm, ⟨15, _⟩ => ⟨S2x256x256, .i32⟩
  | .hbm, ⟨16, _⟩ => ⟨S_, .i32⟩
  | .hbm, ⟨17, _⟩ => ⟨S2x256x256, .i32⟩
  | .hbm, ⟨18, _⟩ => ⟨S2x256x256, .i32⟩
  | .hbm, ⟨19, _⟩ => ⟨S_, .i32⟩
  | .hbm, ⟨20, _⟩ => ⟨S2x256x256, .i32⟩
  | .hbm, ⟨21, _⟩ => ⟨S2x256x256, .i32⟩
  | .hbm, ⟨22, _⟩ => ⟨S2x256x256, .f32⟩
  | .hbm, ⟨23, _⟩ => ⟨S_, .f32⟩
  | .hbm, ⟨24, _⟩ => ⟨S2x256x256, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .i32⟩
  | .hbm, ⟨34, _⟩ => ⟨S_, .i32⟩
  | .hbm, ⟨35, _⟩ => ⟨S2x256x256, .i32⟩
  | .hbm, ⟨36, _⟩ => ⟨S2x256x256, .i32⟩
  | .hbm, ⟨37, _⟩ => ⟨S_, .i32⟩
  | .hbm, ⟨38, _⟩ => ⟨S2x256x256, .i32⟩
  | .hbm, ⟨39, _⟩ => ⟨S2x256x256, .i32⟩
  | .hbm, ⟨40, _⟩ => ⟨S_, .i32⟩
  | .hbm, ⟨41, _⟩ => ⟨S2x256x256, .i32⟩
  | .hbm, ⟨42, _⟩ => ⟨S2x256x256, .i1⟩
  | .hbm, ⟨43, _⟩ => ⟨S2x256x256, .i32⟩
  | .hbm, ⟨44, _⟩ => ⟨S_, .i32⟩
  | .hbm, ⟨45, _⟩ => ⟨S2x256x256, .i32⟩
  | .hbm, ⟨46, _⟩ => ⟨S2x256x256, .i1⟩
  | .hbm, ⟨47, _⟩ => ⟨S_, .i32⟩
  | .hbm, ⟨48, _⟩ => ⟨S2x256x256, .i32⟩
  | .hbm, ⟨49, _⟩ => ⟨S2x256x256, .i32⟩
  | .hbm, ⟨50, _⟩ => ⟨S2x256x256, .i32⟩
  | .hbm, ⟨51, _⟩ => ⟨S2x256x256x1, .i32⟩
  | .hbm, ⟨52, _⟩ => ⟨S2x256x256x16, .f32⟩
  | .hbm, ⟨53, _⟩ => ⟨S2x16x256x256, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_4 : Ref sig .tc := ⟨.hbm, 34, rfl⟩
abbrev main_v27 : Ref sig .tc := ⟨.hbm, 35, rfl⟩
abbrev main_v28 : Ref sig .tc := ⟨.hbm, 36, rfl⟩
abbrev main_c_5 : Ref sig .tc := ⟨.hbm, 37, rfl⟩
abbrev main_v29 : Ref sig .tc := ⟨.hbm, 38, rfl⟩
abbrev main_v30 : Ref sig .tc := ⟨.hbm, 39, rfl⟩
abbrev main_c_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_v34 : Ref sig .tc := ⟨.hbm, 45, rfl⟩
abbrev main_v35 : Ref sig .tc := ⟨.hbm, 46, rfl⟩
abbrev main_c_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Dsa.lean ====
abbrev S32x2048x1024 : Shape := ⟨3, ![32, 2048, 1024]⟩
abbrev S16 : Shape := ⟨1, ![16]⟩
abbrev S32x1024x2048 : Shape := ⟨3, ![32, 1024, 2048]⟩
abbrev S32x512x2048 : Shape := ⟨3, ![32, 512, 2048]⟩
abbrev S32x8x2048 : Shape := ⟨3, ![32, 8, 2048]⟩
abbrev S32x8x2048x128 : Shape := ⟨4, ![32, 8, 2048, 128]⟩
abbrev S32x2048x64 : Shape := ⟨3, ![32, 2048, 64]⟩
abbrev S32x8x1024x256 : Shape := ⟨4, ![32, 8, 1024, 256]⟩
abbrev S2x16x256x256 : Shape := ⟨4, ![2, 16, 256, 256]⟩
abbrev S1024x1024 : Shape := ⟨2, ![1024, 1024]⟩
abbrev S1x256x1024 : Shape := ⟨3, ![1, 256, 1024]⟩
abbrev S1x1024x256 : Shape := ⟨3, ![1, 1024, 256]⟩
abbrev S1x512x256 : Shape := ⟨3, ![1, 512, 256]⟩
abbrev S1x8x256 : Shape := ⟨3, ![1, 8, 256]⟩
abbrev S1x8x2048x128 : Shape := ⟨4, ![1, 8, 2048, 128]⟩
abbrev S1x2048x64 : Shape := ⟨3, ![1, 2048, 64]⟩
abbrev S1x8x1024x256 : Shape := ⟨4, ![1, 8, 1024, 256]⟩
abbrev S2048x256 : Shape := ⟨2, ![2048, 256]⟩
abbrev S1024x256 : Shape := ⟨2, ![1024, 256]⟩
abbrev S8x256 : Shape := ⟨2, ![8, 256]⟩
abbrev S256x256 : Shape := ⟨2, ![256, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S1x1x256 : Shape := ⟨3, ![1, 1, 256]⟩
abbrev S1x256 : Shape := ⟨2, ![1, 256]⟩
abbrev S32x8x256 : Shape := ⟨3, ![32, 8, 256]⟩
abbrev S256 : Shape := ⟨1, ![256]⟩
abbrev S128x256 : Shape := ⟨2, ![128, 256]⟩
abbrev S1x128x256 : Shape := ⟨3, ![1, 128, 256]⟩
abbrev S1 : Shape := ⟨1, ![1]⟩
abbrev S1x1x256x128 : Shape := ⟨4, ![1, 1, 256, 128]⟩
abbrev S256x128 : Shape := ⟨2, ![256, 128]⟩
abbrev S1x1x256x256 : Shape := ⟨4, ![1, 1, 256, 256]⟩
abbrev S1x1x64x256 : Shape := ⟨4, ![1, 1, 64, 256]⟩
abbrev S256x1024 : Shape := ⟨2, ![256, 1024]⟩

abbrev nBuf : Space → Nat
  | .hbm => 12
  | .vmem => 23
  | .smem => 1
  | _ => 0

abbrev bufTy : (tb : Table) → Fin (tcTables nBuf tb) → BufTy
  | .hbm, ⟨0, _⟩ => ⟨S32x2048x1024, .f32⟩
  | .hbm, ⟨1, _⟩ => ⟨S16, .f32⟩
  | .hbm, ⟨2, _⟩ => ⟨S32x1024x2048, .bf16⟩
  | .hbm, ⟨3, _⟩ => ⟨S32x512x2048, .bf16⟩
  | .hbm, ⟨4, _⟩ => ⟨S32x8x2048, .f32⟩
  | .hbm, ⟨5, _⟩ => ⟨S32x8x2048x128, .bf16⟩
  | .hbm, ⟨6, _⟩ => ⟨S32x2048x64, .bf16⟩
  | .hbm, ⟨7, _⟩ => ⟨S32x8x1024x256, .bf16⟩
  | .hbm, ⟨8, _⟩ => ⟨S2x16x256x256, .f32⟩
  | .hbm, ⟨9, _⟩ => ⟨S1024x1024, .f32⟩
  | .hbm, ⟨10, _⟩ => ⟨S1024x1024, .bf16⟩
  | .hbm, ⟨11, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x8x256, .f32⟩
  | .local _ .vmem, ⟨7, _⟩ => ⟨S1x8x256, .f32⟩
  | .local _ .vmem, ⟨8, _⟩ => ⟨S1x8x2048x128, .bf16⟩
  | .local _ .vmem, ⟨9, _⟩ => ⟨S1x8x2048x128, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x8x1024x256, .bf16⟩
  | .local _ .vmem, ⟨13, _⟩ => ⟨S1x8x1024x256, .bf16⟩
  | .local _ .vmem, ⟨14, _⟩ => ⟨S2x16x256x256, .f32⟩
  | .local _ .vmem, ⟨15, _⟩ => ⟨S1024x1024, .bf16⟩
  | .local _ .vmem, ⟨16, _⟩ => ⟨S1x256x1024, .f32⟩
  | .local _ .vmem, ⟨17, _⟩ => ⟨S1x256x1024, .f32⟩
  | .local _ .vmem, ⟨18, _⟩ => ⟨S2048x256, .i32⟩
  | .local _ .vmem, ⟨19, _⟩ => ⟨S2048x256, .f32⟩
  | .local _ .vmem, ⟨20, _⟩ => ⟨S2048x256, .f32⟩
  | .local _ .vmem, ⟨21, _⟩ => ⟨S1024x256, .f32⟩
  | .local _ .vmem, ⟨22, _⟩ => ⟨S8x256, .f32⟩
  | .local _ .smem, ⟨0, _⟩ => ⟨S16, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [BitOps F]

abbrev grid0 : Pipeline.Grid := ⟨2, ![32, 8], ![false, false]⟩

@[reducible] def k0_t1_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_2 : BitVec 32 := 1#32
  ⟨c0_i32_0, v10, c1_i32_2⟩
def k0_mult1 (i : grid0.Coords) (k0_t1 : Fin (k0_t1_loop i).trips) : BitVec 32 :=
  let c0_i32_0 : BitVec 32 := 0#32
  let c1_i32_2 : BitVec 32 := 1#32
  let arg18 : BitVec 32 := Scf.iv c0_i32_0 c1_i32_2 k0_t1
  let c256_i32_32 : BitVec 32 := 256#32
  let v56 : BitVec 32 := Scalar.muli arg18 c256_i32_32
  v56
def k0_off1 (i : grid0.Coords) (k0_t1 : Fin (k0_t1_loop i).trips) : Fin 3 → Nat :=
  let c0_33 : Index := 0#32
  let c0_i32_0 : BitVec 32 := 0#32
  let c1_i32_2 : BitVec 32 := 1#32
  let arg18 : BitVec 32 := Scf.iv c0_i32_0 c1_i32_2 k0_t1
  let c256_i32_32 : BitVec 32 := 256#32
  let v56 : BitVec 32 := Scalar.muli arg18 c256_i32_32
  let v57 : BitVec 32 := v56
  let v58 : Index := Scalar.indexCast v57
  let c0_34 : Index := 0#32
  ![0, v58.toNat, 0]
def k0_mult2 (i : grid0.Coords) (k0_t1 : Fin (k0_t1_loop i).trips) : BitVec 32 :=
  let c0_i32_0 : BitVec 32 := 0#32
  let c1_i32_2 : BitVec 32 := 1#32
  let arg18 : BitVec 32 := Scf.iv c0_i32_0 c1_i32_2 k0_t1
  let c256_i32_90 : BitVec 32 := 256#32
  let v156 : BitVec 32 := Scalar.muli arg18 c256_i32_90
  v156
def k0_off2 (i : grid0.Coords) (k0_t1 : Fin (k0_t1_loop i).trips) : Fin 2 → Nat :=
  let c0_i32_0 : BitVec 32 := 0#32
  let c1_i32_2 : BitVec 32 := 1#32
  let arg18 : BitVec 32 := Scf.iv c0_i32_0 c1_i32_2 k0_t1
  let c256_i32_90 : BitVec 32 := 256#32
  let v156 : BitVec 32 := Scalar.muli arg18 c256_i32_90
  let v157 : BitVec 32 := v156
  let v158 : Index := Scalar.indexCast v157
  let c0_91 : Index := 0#32
  ![v158.toNat, 0]
@[reducible] def k0_t2_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let v7 : BitVec 32 := Scalar.addi c0_i32_0 v6
  let c1_i32_3 : BitVec 32 := 1#32
  ⟨v10, v7, c1_i32_3⟩
def k0_mult3 (i : grid0.Coords) (k0_t2 : Fin (k0_t2_loop i).trips) : BitVec 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg18 : BitVec 32 := Scf.iv v10 c1_i32_3 k0_t2
  let c256_i32_32 : BitVec 32 := 256#32
  let v56 : BitVec 32 := Scalar.muli arg18 c256_i32_32
  v56
def k0_off3 (i : grid0.Coords) (k0_t2 : Fin (k0_t2_loop i).trips) : Fin 3 → Nat :=
  let c0_33 : Index := 0#32
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg18 : BitVec 32 := Scf.iv v10 c1_i32_3 k0_t2
  let c256_i32_32 : BitVec 32 := 256#32
  let v56 : BitVec 32 := Scalar.muli arg18 c256_i32_32
  let v57 : BitVec 32 := v56
  let v58 : Index := Scalar.indexCast v57
  let c0_34 : Index := 0#32
  ![0, v58.toNat, 0]
def k0_mult4 (i : grid0.Coords) (k0_t2 : Fin (k0_t2_loop i).trips) : BitVec 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg18 : BitVec 32 := Scf.iv v10 c1_i32_3 k0_t2
  let c256_i32_90 : BitVec 32 := 256#32
  let v156 : BitVec 32 := Scalar.muli arg18 c256_i32_90
  v156
def k0_off4 (i : grid0.Coords) (k0_t2 : Fin (k0_t2_loop i).trips) : Fin 2 → Nat :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg18 : BitVec 32 := Scf.iv v10 c1_i32_3 k0_t2
  let c256_i32_90 : BitVec 32 := 256#32
  let v156 : BitVec 32 := Scalar.muli arg18 c256_i32_90
  let v157 : BitVec 32 := v156
  let v158 : Index := Scalar.indexCast v157
  let c0_91 : Index := 0#32
  ![v158.toNat, 0]
@[reducible] def k0_t3_loop : Scf.Loop 32 :=
  let c0_i32_5 : BitVec 32 := 0#32
  let c32_i32 : BitVec 32 := 32#32
  let v12 : BitVec 32 := Scalar.addi c0_i32_5 c32_i32
  let c1_i32_6 : BitVec 32 := 1#32
  ⟨c0_i32_5, v12, c1_i32_6⟩
@[reducible] def k0_t4_loop (i : grid0.Coords) : Scf.Loop 32 :=
  let c0_i32_35 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_35
  let c1_i32_36 : BitVec 32 := 1#32
  let v65 : BitVec 32 := Scalar.divsi v63 c1_i32_36
  let v66 : BitVec 32 := Scalar.muli v65 c1_i32_36
  let v67 : BitVec 32 := Scalar.addi c0_i32_35 v66
  let c1_i32_37 : BitVec 32 := 1#32
  ⟨c0_i32_35, v67, c1_i32_37⟩
def k0_mult5 (i : grid0.Coords) (k0_t4 : Fin (k0_t4_loop i).trips) : BitVec 32 :=
  let c0_i32_35 : BitVec 32 := 0#32
  let c1_i32_37 : BitVec 32 := 1#32
  let arg20 : BitVec 32 := Scf.iv c0_i32_35 c1_i32_37 k0_t4
  let c256_i32_41 : BitVec 32 := 256#32
  let v75 : BitVec 32 := Scalar.muli arg20 c256_i32_41
  v75
def k0_off5 (i : grid0.Coords) (k0_t4 : Fin (k0_t4_loop i).trips) : Fin 2 → Nat :=
  let c0_i32_35 : BitVec 32 := 0#32
  let c1_i32_37 : BitVec 32 := 1#32
  let arg20 : BitVec 32 := Scf.iv c0_i32_35 c1_i32_37 k0_t4
  let c256_i32_41 : BitVec 32 := 256#32
  let v75 : BitVec 32 := Scalar.muli arg20 c256_i32_41
  let v76 : BitVec 32 := v75
  let v77 : Index := Scalar.indexCast v76
  let c0_42 : Index := 0#32
  ![v77.toNat, 0]
@[reducible] def k0_t5_loop (i : grid0.Coords) : Scf.Loop 32 :=
  let c0_i32_35 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_35
  let c1_i32_36 : BitVec 32 := 1#32
  let v65 : BitVec 32 := Scalar.divsi v63 c1_i32_36
  let v66 : BitVec 32 := Scalar.muli v65 c1_i32_36
  let v67 : BitVec 32 := Scalar.addi c0_i32_35 v66
  let v64 : BitVec 32 := Scalar.addi c0_i32_35 v63
  let c1_i32_38 : BitVec 32 := 1#32
  ⟨v67, v64, c1_i32_38⟩
def k0_mult6 (i : grid0.Coords) (k0_t5 : Fin (k0_t5_loop i).trips) : BitVec 32 :=
  let c0_i32_35 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_35
  let c1_i32_36 : BitVec 32 := 1#32
  let v65 : BitVec 32 := Scalar.divsi v63 c1_i32_36
  let v66 : BitVec 32 := Scalar.muli v65 c1_i32_36
  let v67 : BitVec 32 := Scalar.addi c0_i32_35 v66
  let c1_i32_38 : BitVec 32 := 1#32
  let arg20 : BitVec 32 := Scf.iv v67 c1_i32_38 k0_t5
  let c256_i32_41 : BitVec 32 := 256#32
  let v75 : BitVec 32 := Scalar.muli arg20 c256_i32_41
  v75
def k0_off6 (i : grid0.Coords) (k0_t5 : Fin (k0_t5_loop i).trips) : Fin 2 → Nat :=
  let c0_i32_35 : BitVec 32 := 0#32
  let arg1 : BitVec 32 := BitVec.ofNat 32 (i 1).val
  let c1_i32 : BitVec 32 := 1#32
  let v0 : BitVec 32 := Scalar.addi arg1 c1_i32
  let v63 : BitVec 32 := Scalar.subi v0 c0_i32_35
  let c1_i32_36 : BitVec 32 := 1#32
  let v65 : BitVec 32 := Scalar.divsi v63 c1_i32_36
  let v66 : BitVec 32 := Scalar.muli v65 c1_i32_36
  let v67 : BitVec 32 := Scalar.addi c0_i32_35 v66
  let c1_i32_38 : BitVec 32 := 1#32
  let arg20 : BitVec 32 := Scf.iv v67 c1_i32_38 k0_t5
  let c256_i32_41 : BitVec 32 := 256#32
  let v75 : BitVec 32 := Scalar.muli arg20 c256_i32_41
  let v76 : BitVec 32 := v75
  let v77 : Index := Scalar.indexCast v76
  let c0_42 : Index := 0#32
  ![v77.toNat, 0]
@[reducible] def k0_t6_loop (i : grid0.Coords) : Scf.Loop 32 :=
  let c0_i32_9 : BitVec 32 := 0#32
  let arg1 : BitVec 32 := BitVec.ofNat 32 (i 1).val
  let c1_i32 : BitVec 32 := 1#32
  let v0 : BitVec 32 := Scalar.addi arg1 c1_i32
  let v17 : BitVec 32 := Scalar.subi v0 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_11 : BitVec 32 := 1#32
  ⟨c0_i32_9, v21, c1_i32_11⟩
def k0_mult7 (i : grid0.Coords) (k0_t6 : Fin (k0_t6_loop i).trips) : BitVec 32 :=
  let c0_i32_9 : BitVec 32 := 0#32
  let c1_i32_11 : BitVec 32 := 1#32
  let arg18 : BitVec 32 := Scf.iv c0_i32_9 c1_i32_11 k0_t6
  let c256_i32_32 : BitVec 32 := 256#32
  let v56 : BitVec 32 := Scalar.muli arg18 c256_i32_32
  v56
def k0_off7 (i : grid0.Coords) (k0_t6 : Fin (k0_t6_loop i).trips) : Fin 2 → Nat :=
  let c0_i32_9 : BitVec 32 := 0#32
  let c1_i32_11 : BitVec 32 := 1#32
  let arg18 : BitVec 32 := Scf.iv c0_i32_9 c1_i32_11 k0_t6
  let c256_i32_32 : BitVec 32 := 256#32
  let v56 : BitVec 32 := Scalar.muli arg18 c256_i32_32
  let v57 : BitVec 32 := v56
  let v58 : Index := Scalar.indexCast v57
  let c0_33 : Index := 0#32
  ![v58.toNat, 0]
@[reducible] def k0_t7_loop (i : grid0.Coords) : Scf.Loop 32 :=
  let c0_i32_9 : BitVec 32 := 0#32
  let arg1 : BitVec 32 := BitVec.ofNat 32 (i 1).val
  let c1_i32 : BitVec 32 := 1#32
  let v0 : BitVec 32 := Scalar.addi arg1 c1_i32
  let v17 : BitVec 32 := Scalar.subi v0 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let v18 : BitVec 32 := Scalar.addi c0_i32_9 v17
  let c1_i32_12 : BitVec 32 := 1#32
  ⟨v21, v18, c1_i32_12⟩
def k0_mult8 (i : grid0.Coords) (k0_t7 : Fin (k0_t7_loop i).trips) : BitVec 32 :=
  let c0_i32_9 : BitVec 32 := 0#32
  let arg1 : BitVec 32 := BitVec.ofNat 32 (i 1).val
  let c1_i32 : BitVec 32 := 1#32
  let v0 : BitVec 32 := Scalar.addi arg1 c1_i32
  let v17 : BitVec 32 := Scalar.subi v0 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_12 : BitVec 32 := 1#32
  let arg18 : BitVec 32 := Scf.iv v21 c1_i32_12 k0_t7
  let c256_i32_32 : BitVec 32 := 256#32
  let v56 : BitVec 32 := Scalar.muli arg18 c256_i32_32
  v56
def k0_off8 (i : grid0.Coords) (k0_t7 : Fin (k0_t7_loop i).trips) : Fin 2 → Nat :=
  let c0_i32_9 : BitVec 32 := 0#32
  let arg1 : BitVec 32 := BitVec.ofNat 32 (i 1).val
  let c1_i32 : BitVec 32 := 1#32
  let v0 : BitVec 32 := Scalar.addi arg1 c1_i32
  let v17 : BitVec 32 := Scalar.subi v0 c0_i32_9
  let c1_i32_10 : BitVec 32 := 1#32
  let v19 : BitVec 32 := Scalar.divsi v17 c1_i32_10
  let v20 : BitVec 32 := Scalar.muli v19 c1_i32_10
  let v21 : BitVec 32 := Scalar.addi c0_i32_9 v20
  let c1_i32_12 : BitVec 32 := 1#32
  let arg18 : BitVec 32 := Scf.iv v21 c1_i32_12 k0_t7
  let c256_i32_32 : BitVec 32 := 256#32
  let v56 : BitVec 32 := Scalar.muli arg18 c256_i32_32
  let v57 : BitVec 32 := v56
  let v58 : Index := Scalar.indexCast v57
  let c0_33 : Index := 0#32
  ![v58.toNat, 0]
@[reducible] def k0_t8_loop (i : grid0.Coords) : Scf.Loop 32 :=
  let c0_i32_15 : BitVec 32 := 0#32
  let arg1 : BitVec 32 := BitVec.ofNat 32 (i 1).val
  let c1_i32 : BitVec 32 := 1#32
  let v0 : BitVec 32 := Scalar.addi arg1 c1_i32
  let v36 : BitVec 32 := Scalar.subi v0 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_17 : BitVec 32 := 1#32
  ⟨c0_i32_15, v40, c1_i32_17⟩
def k0_mult9 (i : grid0.Coords) (k0_t8 : Fin (k0_t8_loop i).trips) : BitVec 32 :=
  let c0_i32_15 : BitVec 32 := 0#32
  let c1_i32_17 : BitVec 32 := 1#32
  let arg18 : BitVec 32 := Scf.iv c0_i32_15 c1_i32_17 k0_t8
  let c256_i32_32 : BitVec 32 := 256#32
  let v56 : BitVec 32 := Scalar.muli arg18 c256_i32_32
  v56
def k0_off9 (i : grid0.Coords) (k0_t8 : Fin (k0_t8_loop i).trips) : Fin 2 → Nat :=
  let c0_i32_15 : BitVec 32 := 0#32
  let c1_i32_17 : BitVec 32 := 1#32
  let arg18 : BitVec 32 := Scf.iv c0_i32_15 c1_i32_17 k0_t8
  let c256_i32_32 : BitVec 32 := 256#32
  let v56 : BitVec 32 := Scalar.muli arg18 c256_i32_32
  let v57 : BitVec 32 := v56
  let v58 : Index := Scalar.indexCast v57
  let c0_33 : Index := 0#32
  ![v58.toNat, 0]
def k0_mult10 (i : grid0.Coords) (k0_t8 : Fin (k0_t8_loop i).trips) : BitVec 32 :=
  let c0_i32_15 : BitVec 32 := 0#32
  let c1_i32_17 : BitVec 32 := 1#32
  let arg18 : BitVec 32 := Scf.iv c0_i32_15 c1_i32_17 k0_t8
  let c256_i32_39 : BitVec 32 := 256#32
  let v82 : BitVec 32 := Scalar.muli arg18 c256_i32_39
  v82
@[reducible] def k0_t9_loop (i : grid0.Coords) : Scf.Loop 32 :=
  let c0_i32_15 : BitVec 32 := 0#32
  let arg1 : BitVec 32 := BitVec.ofNat 32 (i 1).val
  let c1_i32 : BitVec 32 := 1#32
  let v0 : BitVec 32 := Scalar.addi arg1 c1_i32
  let v36 : BitVec 32 := Scalar.subi v0 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let v37 : BitVec 32 := Scalar.addi c0_i32_15 v36
  let c1_i32_18 : BitVec 32 := 1#32
  ⟨v40, v37, c1_i32_18⟩
def k0_mult11 (i : grid0.Coords) (k0_t9 : Fin (k0_t9_loop i).trips) : BitVec 32 :=
  let c0_i32_15 : BitVec 32 := 0#32
  let arg1 : BitVec 32 := BitVec.ofNat 32 (i 1).val
  let c1_i32 : BitVec 32 := 1#32
  let v0 : BitVec 32 := Scalar.addi arg1 c1_i32
  let v36 : BitVec 32 := Scalar.subi v0 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg18 : BitVec 32 := Scf.iv v40 c1_i32_18 k0_t9
  let c256_i32_32 : BitVec 32 := 256#32
  let v56 : BitVec 32 := Scalar.muli arg18 c256_i32_32
  v56
def k0_off10 (i : grid0.Coords) (k0_t9 : Fin (k0_t9_loop i).trips) : Fin 2 → Nat :=
  let c0_i32_15 : BitVec 32 := 0#32
  let arg1 : BitVec 32 := BitVec.ofNat 32 (i 1).val
  let c1_i32 : BitVec 32 := 1#32
  let v0 : BitVec 32 := Scalar.addi arg1 c1_i32
  let v36 : BitVec 32 := Scalar.subi v0 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg18 : BitVec 32 := Scf.iv v40 c1_i32_18 k0_t9
  let c256_i32_32 : BitVec 32 := 256#32
  let v56 : BitVec 32 := Scalar.muli arg18 c256_i32_32
  let v57 : BitVec 32 := v56
  let v58 : Index := Scalar.indexCast v57
  let c0_33 : Index := 0#32
  ![v58.toNat, 0]
def k0_mult12 (i : grid0.Coords) (k0_t9 : Fin (k0_t9_loop i).trips) : BitVec 32 :=
  let c0_i32_15 : BitVec 32 := 0#32
  let arg1 : BitVec 32 := BitVec.ofNat 32 (i 1).val
  let c1_i32 : BitVec 32 := 1#32
  let v0 : BitVec 32 := Scalar.addi arg1 c1_i32
  let v36 : BitVec 32 := Scalar.subi v0 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg18 : BitVec 32 := Scf.iv v40 c1_i32_18 k0_t9
  let c256_i32_39 : BitVec 32 := 256#32
  let v82 : BitVec 32 := Scalar.muli arg18 c256_i32_39
  v82
@[reducible] def k0_t10_loop : Scf.Loop 32 :=
  let c0_i32_19 : BitVec 32 := 0#32
  let c16_i32 : BitVec 32 := 16#32
  let v44 : BitVec 32 := Scalar.addi c0_i32_19 c16_i32
  let c1_i32_20 : BitVec 32 := 1#32
  ⟨c0_i32_19, v44, c1_i32_20⟩
def k0_mult13 (k0_t10 : Fin k0_t10_loop.trips) : BitVec 32 :=
  let c0_i32_19 : BitVec 32 := 0#32
  let c1_i32_20 : BitVec 32 := 1#32
  let arg18 : BitVec 32 := Scf.iv c0_i32_19 c1_i32_20 k0_t10
  let c0_i32_32 : BitVec 32 := 0#32
  let v57 : BitVec 1 := Scalar.cmpi .sgt arg18 c0_i32_32
  let v58 : BitVec 32 := Scalar.extui v57
  let c0_i32_33 : BitVec 32 := 0#32
  let v59 : BitVec 1 := Scalar.cmpi .slt arg18 c0_i32_33
  let v60 : BitVec 32 := Scalar.extui v59
  let v61 : BitVec 32 := Scalar.subi v58 v60
  let c2_i32 : BitVec 32 := 2#32
  let c0_i32_34 : BitVec 32 := 0#32
  let v62 : BitVec 1 := Scalar.cmpi .sgt c2_i32 c0_i32_34
  let v63 : BitVec 32 := Scalar.extui v62
  let c0_i32_35 : BitVec 32 := 0#32
  let v64 : BitVec 1 := Scalar.cmpi .slt c2_i32 c0_i32_35
  let v65 : BitVec 32 := Scalar.extui v64
  let v66 : BitVec 32 := Scalar.subi v63 v65
  let v67 : BitVec 1 := Scalar.cmpi .ne v61 v66
  let v68 : BitVec 32 := Scalar.remsi arg18 c2_i32
  let c0_i32_36 : BitVec 32 := 0#32
  let v69 : BitVec 1 := Scalar.cmpi .ne v68 c0_i32_36
  let v70 : BitVec 1 := Scalar.andi v67 v69
  let v56 : BitVec 32 := Scalar.divsi arg18 c2_i32
  let c1_i32_37 : BitVec 32 := 1#32
  let v71 : BitVec 32 := Scalar.subi v56 c1_i32_37
  let v72 : BitVec 32 := Scalar.select v70 v71 v56
  let c2_i32_44 : BitVec 32 := 2#32
  let v84 : BitVec 32 := Scalar.muli v72 c2_i32_44
  let c64_i32_45 : BitVec 32 := 64#32
  let v85 : BitVec 32 := Scalar.muli v84 c64_i32_45
  v85
def k0_off11 (k0_t10 : Fin k0_t10_loop.trips) : Fin 3 → Nat :=
  let c0_46 : Index := 0#32
  let c0_i32_19 : BitVec 32 := 0#32
  let c1_i32_20 : BitVec 32 := 1#32
  let arg18 : BitVec 32 := Scf.iv c0_i32_19 c1_i32_20 k0_t10
  let c0_i32_32 : BitVec 32 := 0#32
  let v57 : BitVec 1 := Scalar.cmpi .sgt arg18 c0_i32_32
  let v58 : BitVec 32 := Scalar.extui v57
  let c0_i32_33 : BitVec 32 := 0#32
  let v59 : BitVec 1 := Scalar.cmpi .slt arg18 c0_i32_33
  let v60 : BitVec 32 := Scalar.extui v59
  let v61 : BitVec 32 := Scalar.subi v58 v60
  let c2_i32 : BitVec 32 := 2#32
  let c0_i32_34 : BitVec 32 := 0#32
  let v62 : BitVec 1 := Scalar.cmpi .sgt c2_i32 c0_i32_34
  let v63 : BitVec 32 := Scalar.extui v62
  let c0_i32_35 : BitVec 32 := 0#32
  let v64 : BitVec 1 := Scalar.cmpi .slt c2_i32 c0_i32_35
  let v65 : BitVec 32 := Scalar.extui v64
  let v66 : BitVec 32 := Scalar.subi v63 v65
  let v67 : BitVec 1 := Scalar.cmpi .ne v61 v66
  let v68 : BitVec 32 := Scalar.remsi arg18 c2_i32
  let c0_i32_36 : BitVec 32 := 0#32
  let v69 : BitVec 1 := Scalar.cmpi .ne v68 c0_i32_36
  let v70 : BitVec 1 := Scalar.andi v67 v69
  let v56 : BitVec 32 := Scalar.divsi arg18 c2_i32
  let c1_i32_37 : BitVec 32 := 1#32
  let v71 : BitVec 32 := Scalar.subi v56 c1_i32_37
  let v72 : BitVec 32 := Scalar.select v70 v71 v56
  let c2_i32_44 : BitVec 32 := 2#32
  let v84 : BitVec 32 := Scalar.muli v72 c2_i32_44
  let c64_i32_45 : BitVec 32 := 64#32
  let v85 : BitVec 32 := Scalar.muli v84 c64_i32_45
  let v86 : BitVec 32 := v85
  let v87 : Index := Scalar.indexCast v86
  let c0_47 : Index := 0#32
  ![0, v87.toNat, 0]
def k0_off12 (k0_t10 : Fin k0_t10_loop.trips) : Fin 1 → Nat :=
  let c0_i32_19 : BitVec 32 := 0#32
  let c1_i32_20 : BitVec 32 := 1#32
  let arg18 : BitVec 32 := Scf.iv c0_i32_19 c1_i32_20 k0_t10
  let v98 : Index := Scalar.indexCast arg18
  ![v98.toNat]
@[reducible] def k0_t11_loop (i : grid0.Coords) : Scf.Loop 32 :=
  let c0_i32_53 : BitVec 32 := 0#32
  let arg1 : BitVec 32 := BitVec.ofNat 32 (i 1).val
  let c1_i32 : BitVec 32 := 1#32
  let v0 : BitVec 32 := Scalar.addi arg1 c1_i32
  let c2_i32_50 : BitVec 32 := 2#32
  let v100 : BitVec 32 := Scalar.subi v0 c2_i32_50
  let c0_i32_51 : BitVec 32 := 0#32
  let v101 : BitVec 32 := Scalar.maxsi v100 c0_i32_51
  let v103 : BitVec 32 := Scalar.subi v101 c0_i32_53
  let c1_i32_54 : BitVec 32 := 1#32
  let v105 : BitVec 32 := Scalar.divsi v103 c1_i32_54
  let v106 : BitVec 32 := Scalar.muli v105 c1_i32_54
  let v107 : BitVec 32 := Scalar.addi c0_i32_53 v106
  let c1_i32_55 : BitVec 32 := 1#32
  ⟨c0_i32_53, v107, c1_i32_55⟩
def k0_mult14 (i : grid0.Coords) (k0_t11 : Fin (k0_t11_loop i).trips) : BitVec 32 :=
  let c0_i32_53 : BitVec 32 := 0#32
  let c1_i32_55 : BitVec 32 := 1#32
  let arg19 : BitVec 32 := Scf.iv c0_i32_53 c1_i32_55 k0_t11
  let c256_i32_86 : BitVec 32 := 256#32
  let v164 : BitVec 32 := Scalar.muli arg19 c256_i32_86
  v164
def k0_off13 (i : grid0.Coords) (k0_t10 : Fin k0_t10_loop.trips) (k0_t11 : Fin (k0_t11_loop i).trips) : Fin 4 → Nat :=
  let c0_87 : Index := 0#32
  let c0_i32_19 : BitVec 32 := 0#32
  let c1_i32_20 : BitVec 32 := 1#32
  let arg18 : BitVec 32 := Scf.iv c0_i32_19 c1_i32_20 k0_t10
  let c0_i32_32 : BitVec 32 := 0#32
  let v57 : BitVec 1 := Scalar.cmpi .sgt arg18 c0_i32_32
  let v58 : BitVec 32 := Scalar.extui v57
  let c0_i32_33 : BitVec 32 := 0#32
  let v59 : BitVec 1 := Scalar.cmpi .slt arg18 c0_i32_33
  let v60 : BitVec 32 := Scalar.extui v59
  let v61 : BitVec 32 := Scalar.subi v58 v60
  let c2_i32 : BitVec 32 := 2#32
  let c0_i32_34 : BitVec 32 := 0#32
  let v62 : BitVec 1 := Scalar.cmpi .sgt c2_i32 c0_i32_34
  let v63 : BitVec 32 := Scalar.extui v62
  let c0_i32_35 : BitVec 32 := 0#32
  let v64 : BitVec 1 := Scalar.cmpi .slt c2_i32 c0_i32_35
  let v65 : BitVec 32 := Scalar.extui v64
  let v66 : BitVec 32 := Scalar.subi v63 v65
  let v67 : BitVec 1 := Scalar.cmpi .ne v61 v66
  let v68 : BitVec 32 := Scalar.remsi arg18 c2_i32
  let c0_i32_36 : BitVec 32 := 0#32
  let v69 : BitVec 1 := Scalar.cmpi .ne v68 c0_i32_36
  let v70 : BitVec 1 := Scalar.andi v67 v69
  let v56 : BitVec 32 := Scalar.divsi arg18 c2_i32
  let c1_i32_37 : BitVec 32 := 1#32
  let v71 : BitVec 32 := Scalar.subi v56 c1_i32_37
  let v72 : BitVec 32 := Scalar.select v70 v71 v56
  let v166 : Index := Scalar.indexCast v72
  let c0_i32_53 : BitVec 32 := 0#32
  let c1_i32_55 : BitVec 32 := 1#32
  let arg19 : BitVec 32 := Scf.iv c0_i32_53 c1_i32_55 k0_t11
  let c256_i32_86 : BitVec 32 := 256#32
  let v164 : BitVec 32 := Scalar.muli arg19 c256_i32_86
  let v165 : BitVec 32 := v164
  let v167 : Index := Scalar.indexCast v165
  let c0_88 : Index := 0#32
  ![0, v166.toNat, v167.toNat, 0]
def k0_mult15 (i : grid0.Coords) (k0_t11 : Fin (k0_t11_loop i).trips) : BitVec 32 :=
  let c0_i32_53 : BitVec 32 := 0#32
  let c1_i32_55 : BitVec 32 := 1#32
  let arg19 : BitVec 32 := Scf.iv c0_i32_53 c1_i32_55 k0_t11
  let c256_i32_90 : BitVec 32 := 256#32
  let v173 : BitVec 32 := Scalar.muli arg19 c256_i32_90
  v173
def k0_off14 (i : grid0.Coords) (k0_t11 : Fin (k0_t11_loop i).trips) : Fin 2 → Nat :=
  let c0_i32_53 : BitVec 32 := 0#32
  let c1_i32_55 : BitVec 32 := 1#32
  let arg19 : BitVec 32 := Scf.iv c0_i32_53 c1_i32_55 k0_t11
  let c256_i32_90 : BitVec 32 := 256#32
  let v173 : BitVec 32 := Scalar.muli arg19 c256_i32_90
  let v174 : BitVec 32 := v173
  let v175 : Index := Scalar.indexCast v174
  let c0_91 : Index := 0#32
  ![v175.toNat, 0]
def k0_mult16 (i : grid0.Coords) (k0_t11 : Fin (k0_t11_loop i).trips) : BitVec 32 :=
  let c0_i32_53 : BitVec 32 := 0#32
  let c1_i32_55 : BitVec 32 := 1#32
  let arg19 : BitVec 32 := Scf.iv c0_i32_53 c1_i32_55 k0_t11
  let c256_i32_92 : BitVec 32 := 256#32
  let v178 : BitVec 32 := Scalar.muli arg19 c256_i32_92
  v178
@[reducible] def k0_t12_loop (i : grid0.Coords) : Scf.Loop 32 :=
  let c0_i32_53 : BitVec 32 := 0#32
  let arg1 : BitVec 32 := BitVec.ofNat 32 (i 1).val
  let c1_i32 : BitVec 32 := 1#32
  let v0 : BitVec 32 := Scalar.addi arg1 c1_i32
  let c2_i32_50 : BitVec 32 := 2#32
  let v100 : BitVec 32 := Scalar.subi v0 c2_i32_50
  let c0_i32_51 : BitVec 32 := 0#32
  let v101 : BitVec 32 := Scalar.maxsi v100 c0_i32_51
  let v103 : BitVec 32 := Scalar.subi v101 c0_i32_53
  let c1_i32_54 : BitVec 32 := 1#32
  let v105 : BitVec 32 := Scalar.divsi v103 c1_i32_54
  let v106 : BitVec 32 := Scalar.muli v105 c1_i32_54
  let v107 : BitVec 32 := Scalar.addi c0_i32_53 v106
  let v104 : BitVec 32 := Scalar.addi c0_i32_53 v103
  let c1_i32_56 : BitVec 32 := 1#32
  ⟨v107, v104, c1_i32_56⟩
def k0_mult17 (i : grid0.Coords) (k0_t12 : Fin (k0_t12_loop i).trips) : BitVec 32 :=
  let c0_i32_53 : BitVec 32 := 0#32
  let arg1 : BitVec 32 := BitVec.ofNat 32 (i 1).val
  let c1_i32 : BitVec 32 := 1#32
  let v0 : BitVec 32 := Scalar.addi arg1 c1_i32
  let c2_i32_50 : BitVec 32 := 2#32
  let v100 : BitVec 32 := Scalar.subi v0 c2_i32_50
  let c0_i32_51 : BitVec 32 := 0#32
  let v101 : BitVec 32 := Scalar.maxsi v100 c0_i32_51
  let v103 : BitVec 32 := Scalar.subi v101 c0_i32_53
  let c1_i32_54 : BitVec 32 := 1#32
  let v105 : BitVec 32 := Scalar.divsi v103 c1_i32_54
  let v106 : BitVec 32 := Scalar.muli v105 c1_i32_54
  let v107 : BitVec 32 := Scalar.addi c0_i32_53 v106
  let c1_i32_56 : BitVec 32 := 1#32
  let arg19 : BitVec 32 := Scf.iv v107 c1_i32_56 k0_t12
  let c256_i32_86 : BitVec 32 := 256#32
  let v164 : BitVec 32 := Scalar.muli arg19 c256_i32_86
  v164
def k0_off15 (i : grid0.Coords) (k0_t10 : Fin k0_t10_loop.trips) (k0_t12 : Fin (k0_t12_loop i).trips) : Fin 4 → Nat :=
  let c0_87 : Index := 0#32
  let c0_i32_19 : BitVec 32 := 0#32
  let c1_i32_20 : BitVec 32 := 1#32
  let arg18 : BitVec 32 := Scf.iv c0_i32_19 c1_i32_20 k0_t10
  let c0_i32_32 : BitVec 32 := 0#32
  let v57 : BitVec 1 := Scalar.cmpi .sgt arg18 c0_i32_32
  let v58 : BitVec 32 := Scalar.extui v57
  let c0_i32_33 : BitVec 32 := 0#32
  let v59 : BitVec 1 := Scalar.cmpi .slt arg18 c0_i32_33
  let v60 : BitVec 32 := Scalar.extui v59
  let v61 : BitVec 32 := Scalar.subi v58 v60
  let c2_i32 : BitVec 32 := 2#32
  let c0_i32_34 : BitVec 32 := 0#32
  let v62 : BitVec 1 := Scalar.cmpi .sgt c2_i32 c0_i32_34
  let v63 : BitVec 32 := Scalar.extui v62
  let c0_i32_35 : BitVec 32 := 0#32
  let v64 : BitVec 1 := Scalar.cmpi .slt c2_i32 c0_i32_35
  let v65 : BitVec 32 := Scalar.extui v64
  let v66 : BitVec 32 := Scalar.subi v63 v65
  let v67 : BitVec 1 := Scalar.cmpi .ne v61 v66
  let v68 : BitVec 32 := Scalar.remsi arg18 c2_i32
  let c0_i32_36 : BitVec 32 := 0#32
  let v69 : BitVec 1 := Scalar.cmpi .ne v68 c0_i32_36
  let v70 : BitVec 1 := Scalar.andi v67 v69
  let v56 : BitVec 32 := Scalar.divsi arg18 c2_i32
  let c1_i32_37 : BitVec 32 := 1#32
  let v71 : BitVec 32 := Scalar.subi v56 c1_i32_37
  let v72 : BitVec 32 := Scalar.select v70 v71 v56
  let v166 : Index := Scalar.indexCast v72
  let c0_i32_53 : BitVec 32 := 0#32
  let arg1 : BitVec 32 := BitVec.ofNat 32 (i 1).val
  let c1_i32 : BitVec 32 := 1#32
  let v0 : BitVec 32 := Scalar.addi arg1 c1_i32
  let c2_i32_50 : BitVec 32 := 2#32
  let v100 : BitVec 32 := Scalar.subi v0 c2_i32_50
  let c0_i32_51 : BitVec 32 := 0#32
  let v101 : BitVec 32 := Scalar.maxsi v100 c0_i32_51
  let v103 : BitVec 32 := Scalar.subi v101 c0_i32_53
  let c1_i32_54 : BitVec 32 := 1#32
  let v105 : BitVec 32 := Scalar.divsi v103 c1_i32_54
  let v106 : BitVec 32 := Scalar.muli v105 c1_i32_54
  let v107 : BitVec 32 := Scalar.addi c0_i32_53 v106
  let c1_i32_56 : BitVec 32 := 1#32
  let arg19 : BitVec 32 := Scf.iv v107 c1_i32_56 k0_t12
  let c256_i32_86 : BitVec 32 := 256#32
  let v164 : BitVec 32 := Scalar.muli arg19 c256_i32_86
  let v165 : BitVec 32 := v164
  let v167 : Index := Scalar.indexCast v165
  let c0_88 : Index := 0#32
  ![0, v166.toNat, v167.toNat, 0]
def k0_mult18 (i : grid0.Coords) (k0_t12 : Fin (k0_t12_loop i).trips) : BitVec 32 :=
  let c0_i32_53 : BitVec 32 := 0#32
  let arg1 : BitVec 32 := BitVec.ofNat 32 (i 1).val
  let c1_i32 : BitVec 32 := 1#32
  let v0 : BitVec 32 := Scalar.addi arg1 c1_i32
  let c2_i32_50 : BitVec 32 := 2#32
  let v100 : BitVec 32 := Scalar.subi v0 c2_i32_50
  let c0_i32_51 : BitVec 32 := 0#32
  let v101 : BitVec 32 := Scalar.maxsi v100 c0_i32_51
  let v103 : BitVec 32 := Scalar.subi v101 c0_i32_53
  let c1_i32_54 : BitVec 32 := 1#32
  let v105 : BitVec 32 := Scalar.divsi v103 c1_i32_54
  let v106 : BitVec 32 := Scalar.muli v105 c1_i32_54
  let v107 : BitVec 32 := Scalar.addi c0_i32_53 v106
  let c1_i32_56 : BitVec 32 := 1#32
  let arg19 : BitVec 32 := Scf.iv v107 c1_i32_56 k0_t12
  let c256_i32_90 : BitVec 32 := 256#32
  let v173 : BitVec 32 := Scalar.muli arg19 c256_i32_90
  v173
def k0_off16 (i : grid0.Coords) (k0_t12 : Fin (k0_t12_loop i).trips) : Fin 2 → Nat :=
  let c0_i32_53 : BitVec 32 := 0#32
  let arg1 : BitVec 32 := BitVec.ofNat 32 (i 1).val
  let c1_i32 : BitVec 32 := 1#32
  let v0 : BitVec 32 := Scalar.addi arg1 c1_i32
  let c2_i32_50 : BitVec 32 := 2#32
  let v100 : BitVec 32 := Scalar.subi v0 c2_i32_50
  let c0_i32_51 : BitVec 32 := 0#32
  let v101 : BitVec 32 := Scalar.maxsi v100 c0_i32_51
  let v103 : BitVec 32 := Scalar.subi v101 c0_i32_53
  let c1_i32_54 : BitVec 32 := 1#32
  let v105 : BitVec 32 := Scalar.divsi v103 c1_i32_54
  let v106 : BitVec 32 := Scalar.muli v105 c1_i32_54
  let v107 : BitVec 32 := Scalar.addi c0_i32_53 v106
  let c1_i32_56 : BitVec 32 := 1#32
  let arg19 : BitVec 32 := Scf.iv v107 c1_i32_56 k0_t12
  let c256_i32_90 : BitVec 32 := 256#32
  let v173 : BitVec 32 := Scalar.muli arg19 c256_i32_90
  let v174 : BitVec 32 := v173
  let v175 : Index := Scalar.indexCast v174
  let c0_91 : Index := 0#32
  ![v175.toNat, 0]
def k0_mult19 (i : grid0.Coords) (k0_t12 : Fin (k0_t12_loop i).trips) : BitVec 32 :=
  let c0_i32_53 : BitVec 32 := 0#32
  let arg1 : BitVec 32 := BitVec.ofNat 32 (i 1).val
  let c1_i32 : BitVec 32 := 1#32
  let v0 : BitVec 32 := Scalar.addi arg1 c1_i32
  let c2_i32_50 : BitVec 32 := 2#32
  let v100 : BitVec 32 := Scalar.subi v0 c2_i32_50
  let c0_i32_51 : BitVec 32 := 0#32
  let v101 : BitVec 32 := Scalar.maxsi v100 c0_i32_51
  let v103 : BitVec 32 := Scalar.subi v101 c0_i32_53
  let c1_i32_54 : BitVec 32 := 1#32
  let v105 : BitVec 32 := Scalar.divsi v103 c1_i32_54
  let v106 : BitVec 32 := Scalar.muli v105 c1_i32_54
  let v107 : BitVec 32 := Scalar.addi c0_i32_53 v106
  let c1_i32_56 : BitVec 32 := 1#32
  let arg19 : BitVec 32 := Scf.iv v107 c1_i32_56 k0_t12
  let c256_i32_92 : BitVec 32 := 256#32
  let v178 : BitVec 32 := Scalar.muli arg19 c256_i32_92
  v178
def k0_cond1 (i : grid0.Coords) : BitVec 1 :=
  let arg1 : BitVec 32 := BitVec.ofNat 32 (i 1).val
  let c1_i32 : BitVec 32 := 1#32
  let v0 : BitVec 32 := Scalar.addi arg1 c1_i32
  let c2_i32_59 : BitVec 32 := 2#32
  let v113 : BitVec 1 := Scalar.cmpi .sge v0 c2_i32_59
  let v114 : BitVec 32 := Scalar.extui v113
  let c0_i32_60 : BitVec 32 := 0#32
  let v115 : BitVec 1 := Scalar.cmpi .ne v114 c0_i32_60
  v115

def k0_off17 (k0_t10 : Fin k0_t10_loop.trips) : Fin 4 → Nat :=
  let c1 : Index := 1#32
  let c0_i32_19 : BitVec 32 := 0#32
  let c1_i32_20 : BitVec 32 := 1#32
  let arg18 : BitVec 32 := Scf.iv c0_i32_19 c1_i32_20 k0_t10
  let v166 : Index := Scalar.indexCast arg18
  let c0_89 : Index := 0#32
  let c0_90 : Index := 0#32
  ![1, v166.toNat, 0, 0]
def k0_mult20 (i : grid0.Coords) : BitVec 32 :=
  let arg1 : BitVec 32 := BitVec.ofNat 32 (i 1).val
  let c1_i32 : BitVec 32 := 1#32
  let v0 : BitVec 32 := Scalar.addi arg1 c1_i32
  let c2_i32_88 : BitVec 32 := 2#32
  let v165 : BitVec 32 := Scalar.subi v0 c2_i32_88
  let c256_i32_91 : BitVec 32 := 256#32
  let v169 : BitVec 32 := Scalar.muli v165 c256_i32_91
  v169
def k0_off18 (i : grid0.Coords) (k0_t10 : Fin k0_t10_loop.trips) : Fin 4 → Nat :=
  let c0_92 : Index := 0#32
  let c0_i32_19 : BitVec 32 := 0#32
  let c1_i32_20 : BitVec 32 := 1#32
  let arg18 : BitVec 32 := Scf.iv c0_i32_19 c1_i32_20 k0_t10
  let c0_i32_32 : BitVec 32 := 0#32
  let v57 : BitVec 1 := Scalar.cmpi .sgt arg18 c0_i32_32
  let v58 : BitVec 32 := Scalar.extui v57
  let c0_i32_33 : BitVec 32 := 0#32
  let v59 : BitVec 1 := Scalar.cmpi .slt arg18 c0_i32_33
  let v60 : BitVec 32 := Scalar.extui v59
  let v61 : BitVec 32 := Scalar.subi v58 v60
  let c2_i32 : BitVec 32 := 2#32
  let c0_i32_34 : BitVec 32 := 0#32
  let v62 : BitVec 1 := Scalar.cmpi .sgt c2_i32 c0_i32_34
  let v63 : BitVec 32 := Scalar.extui v62
  let c0_i32_35 : BitVec 32 := 0#32
  let v64 : BitVec 1 := Scalar.cmpi .slt c2_i32 c0_i32_35
  let v65 : BitVec 32 := Scalar.extui v64
  let v66 : BitVec 32 := Scalar.subi v63 v65
  let v67 : BitVec 1 := Scalar.cmpi .ne v61 v66
  let v68 : BitVec 32 := Scalar.remsi arg18 c2_i32
  let c0_i32_36 : BitVec 32 := 0#32
  let v69 : BitVec 1 := Scalar.cmpi .ne v68 c0_i32_36
  let v70 : BitVec 1 := Scalar.andi v67 v69
  let v56 : BitVec 32 := Scalar.divsi arg18 c2_i32
  let c1_i32_37 : BitVec 32 := 1#32
  let v71 : BitVec 32 := Scalar.subi v56 c1_i32_37
  let v72 : BitVec 32 := Scalar.select v70 v71 v56
  let v171 : Index := Scalar.indexCast v72
  let arg1 : BitVec 32 := BitVec.ofNat 32 (i 1).val
  let c1_i32 : BitVec 32 := 1#32
  let v0 : BitVec 32 := Scalar.addi arg1 c1_i32
  let c2_i32_88 : BitVec 32 := 2#32
  let v165 : BitVec 32 := Scalar.subi v0 c2_i32_88
  let c256_i32_91 : BitVec 32 := 256#32
  let v169 : BitVec 32 := Scalar.muli v165 c256_i32_91
  let v170 : BitVec 32 := v169
  let v172 : Index := Scalar.indexCast v170
  let c0_93 : Index := 0#32
  ![0, v171.toNat, v172.toNat, 0]
def k0_mult21 (i : grid0.Coords) : BitVec 32 :=
  let arg1 : BitVec 32 := BitVec.ofNat 32 (i 1).val
  let c1_i32 : BitVec 32 := 1#32
  let v0 : BitVec 32 := Scalar.addi arg1 c1_i32
  let c2_i32_88 : BitVec 32 := 2#32
  let v165 : BitVec 32 := Scalar.subi v0 c2_i32_88
  let c256_i32_95 : BitVec 32 := 256#32
  let v177 : BitVec 32 := Scalar.muli v165 c256_i32_95
  v177
def k0_off19 (i : grid0.Coords) : Fin 2 → Nat :=
  let arg1 : BitVec 32 := BitVec.ofNat 32 (i 1).val
  let c1_i32 : BitVec 32 := 1#32
  let v0 : BitVec 32 := Scalar.addi arg1 c1_i32
  let c2_i32_88 : BitVec 32 := 2#32
  let v165 : BitVec 32 := Scalar.subi v0 c2_i32_88
  let c256_i32_95 : BitVec 32 := 256#32
  let v177 : BitVec 32 := Scalar.muli v165 c256_i32_95
  let v178 : BitVec 32 := v177
  let v179 : Index := Scalar.indexCast v178
  let c0_96 : Index := 0#32
  ![v179.toNat, 0]
def k0_mult22 (i : grid0.Coords) : BitVec 32 :=
  let arg1 : BitVec 32 := BitVec.ofNat 32 (i 1).val
  let c1_i32 : BitVec 32 := 1#32
  let v0 : BitVec 32 := Scalar.addi arg1 c1_i32
  let c2_i32_88 : BitVec 32 := 2#32
  let v165 : BitVec 32 := Scalar.subi v0 c2_i32_88
  let c256_i32_97 : BitVec 32 := 256#32
  let v182 : BitVec 32 := Scalar.muli v165 c256_i32_97
  v182
def k0_off20 (k0_t10 : Fin k0_t10_loop.trips) : Fin 4 → Nat :=
  let c0_64 : Index := 0#32
  let c0_i32_19 : BitVec 32 := 0#32
  let c1_i32_20 : BitVec 32 := 1#32
  let arg18 : BitVec 32 := Scf.iv c0_i32_19 c1_i32_20 k0_t10
  let v118 : Index := Scalar.indexCast arg18
  let c0_65 : Index := 0#32
  let c0_66 : Index := 0#32
  ![0, v118.toNat, 0, 0]
def k0_mult23 (i : grid0.Coords) : BitVec 32 :=
  let arg1 : BitVec 32 := BitVec.ofNat 32 (i 1).val
  let c1_i32 : BitVec 32 := 1#32
  let v0 : BitVec 32 := Scalar.addi arg1 c1_i32
  let c1_i32_63 : BitVec 32 := 1#32
  let v117 : BitVec 32 := Scalar.subi v0 c1_i32_63
  let c256_i32_67 : BitVec 32 := 256#32
  let v121 : BitVec 32 := Scalar.muli v117 c256_i32_67
  v121
def k0_off21 (i : grid0.Coords) (k0_t10 : Fin k0_t10_loop.trips) : Fin 4 → Nat :=
  let c0_68 : Index := 0#32
  let c0_i32_19 : BitVec 32 := 0#32
  let c1_i32_20 : BitVec 32 := 1#32
  let arg18 : BitVec 32 := Scf.iv c0_i32_19 c1_i32_20 k0_t10
  let c0_i32_32 : BitVec 32 := 0#32
  let v57 : BitVec 1 := Scalar.cmpi .sgt arg18 c0_i32_32
  let v58 : BitVec 32 := Scalar.extui v57
  let c0_i32_33 : BitVec 32 := 0#32
  let v59 : BitVec 1 := Scalar.cmpi .slt arg18 c0_i32_33
  let v60 : BitVec 32 := Scalar.extui v59
  let v61 : BitVec 32 := Scalar.subi v58 v60
  let c2_i32 : BitVec 32 := 2#32
  let c0_i32_34 : BitVec 32 := 0#32
  let v62 : BitVec 1 := Scalar.cmpi .sgt c2_i32 c0_i32_34
  let v63 : BitVec 32 := Scalar.extui v62
  let c0_i32_35 : BitVec 32 := 0#32
  let v64 : BitVec 1 := Scalar.cmpi .slt c2_i32 c0_i32_35
  let v65 : BitVec 32 := Scalar.extui v64
  let v66 : BitVec 32 := Scalar.subi v63 v65
  let v67 : BitVec 1 := Scalar.cmpi .ne v61 v66
  let v68 : BitVec 32 := Scalar.remsi arg18 c2_i32
  let c0_i32_36 : BitVec 32 := 0#32
  let v69 : BitVec 1 := Scalar.cmpi .ne v68 c0_i32_36
  let v70 : BitVec 1 := Scalar.andi v67 v69
  let v56 : BitVec 32 := Scalar.divsi arg18 c2_i32
  let c1_i32_37 : BitVec 32 := 1#32
  let v71 : BitVec 32 := Scalar.subi v56 c1_i32_37
  let v72 : BitVec 32 := Scalar.select v70 v71 v56
  let v123 : Index := Scalar.indexCast v72
  let arg1 : BitVec 32 := BitVec.ofNat 32 (i 1).val
  let c1_i32 : BitVec 32 := 1#32
  let v0 : BitVec 32 := Scalar.addi arg1 c1_i32
  let c1_i32_63 : BitVec 32 := 1#32
  let v117 : BitVec 32 := Scalar.subi v0 c1_i32_63
  let c256_i32_67 : BitVec 32 := 256#32
  let v121 : BitVec 32 := Scalar.muli v117 c256_i32_67
  let v122 : BitVec 32 := v121
  let v124 : Index := Scalar.indexCast v122
  let c0_69 : Index := 0#32
  ![0, v123.toNat, v124.toNat, 0]
def k0_mult24 (i : grid0.Coords) : BitVec 32 :=
  let arg1 : BitVec 32 := BitVec.ofNat 32 (i 1).val
  let c1_i32 : BitVec 32 := 1#32
  let v0 : BitVec 32 := Scalar.addi arg1 c1_i32
  let c1_i32_63 : BitVec 32 := 1#32
  let v117 : BitVec 32 := Scalar.subi v0 c1_i32_63
  let c256_i32_71 : BitVec 32 := 256#32
  let v129 : BitVec 32 := Scalar.muli v117 c256_i32_71
  v129
def k0_off22 (i : grid0.Coords) : Fin 2 → Nat :=
  let arg1 : BitVec 32 := BitVec.ofNat 32 (i 1).val
  let c1_i32 : BitVec 32 := 1#32
  let v0 : BitVec 32 := Scalar.addi arg1 c1_i32
  let c1_i32_63 : BitVec 32 := 1#32
  let v117 : BitVec 32 := Scalar.subi v0 c1_i32_63
  let c256_i32_71 : BitVec 32 := 256#32
  let v129 : BitVec 32 := Scalar.muli v117 c256_i32_71
  let v130 : BitVec 32 := v129
  let v131 : Index := Scalar.indexCast v130
  let c0_72 : Index := 0#32
  ![v131.toNat, 0]
def k0_mult25 (i : grid0.Coords) : BitVec 32 :=
  let arg1 : BitVec 32 := BitVec.ofNat 32 (i 1).val
  let c1_i32 : BitVec 32 := 1#32
  let v0 : BitVec 32 := Scalar.addi arg1 c1_i32
  let c1_i32_63 : BitVec 32 := 1#32
  let v117 : BitVec 32 := Scalar.subi v0 c1_i32_63
  let c256_i32_73 : BitVec 32 := 256#32
  let v134 : BitVec 32 := Scalar.muli v117 c256_i32_73
  v134
@[reducible] def k0_t13_loop (i : grid0.Coords) : Scf.Loop 32 :=
  let c0_i32_79 : BitVec 32 := 0#32
  let arg1 : BitVec 32 := BitVec.ofNat 32 (i 1).val
  let c1_i32 : BitVec 32 := 1#32
  let v0 : BitVec 32 := Scalar.addi arg1 c1_i32
  let v147 : BitVec 32 := Scalar.subi v0 c0_i32_79
  let c1_i32_80 : BitVec 32 := 1#32
  let v149 : BitVec 32 := Scalar.divsi v147 c1_i32_80
  let v150 : BitVec 32 := Scalar.muli v149 c1_i32_80
  let v151 : BitVec 32 := Scalar.addi c0_i32_79 v150
  let c1_i32_81 : BitVec 32 := 1#32
  ⟨c0_i32_79, v151, c1_i32_81⟩
def k0_mult26 (i : grid0.Coords) (k0_t13 : Fin (k0_t13_loop i).trips) : BitVec 32 :=
  let c0_i32_79 : BitVec 32 := 0#32
  let c1_i32_81 : BitVec 32 := 1#32
  let arg19 : BitVec 32 := Scf.iv c0_i32_79 c1_i32_81 k0_t13
  let c256_i32_86 : BitVec 32 := 256#32
  let v164 : BitVec 32 := Scalar.muli arg19 c256_i32_86
  v164
def k0_off23 (i : grid0.Coords) (k0_t13 : Fin (k0_t13_loop i).trips) : Fin 2 → Nat :=
  let c0_i32_79 : BitVec 32 := 0#32
  let c1_i32_81 : BitVec 32 := 1#32
  let arg19 : BitVec 32 := Scf.iv c0_i32_79 c1_i32_81 k0_t13
  let c256_i32_86 : BitVec 32 := 256#32
  let v164 : BitVec 32 := Scalar.muli arg19 c256_i32_86
  let v165 : BitVec 32 := v164
  let v166 : Index := Scalar.indexCast v165
  let c0_87 : Index := 0#32
  ![v166.toNat, 0]
def k0_mult27 (k0_t10 : Fin k0_t10_loop.trips) : BitVec 32 :=
  let c0_i32_19 : BitVec 32 := 0#32
  let c1_i32_20 : BitVec 32 := 1#32
  let arg18 : BitVec 32 := Scf.iv c0_i32_19 c1_i32_20 k0_t10
  let c64_i32_88 : BitVec 32 := 64#32
  let v171 : BitVec 32 := Scalar.muli arg18 c64_i32_88
  v171
def k0_off24 (i : grid0.Coords) (k0_t10 : Fin k0_t10_loop.trips) (k0_t13 : Fin (k0_t13_loop i).trips) : Fin 4 → Nat :=
  let c0_89 : Index := 0#32
  let c0_i32_79 : BitVec 32 := 0#32
  let c1_i32_81 : BitVec 32 := 1#32
  let arg19 : BitVec 32 := Scf.iv c0_i32_79 c1_i32_81 k0_t13
  let v173 : Index := Scalar.indexCast arg19
  let c0_i32_19 : BitVec 32 := 0#32
  let c1_i32_20 : BitVec 32 := 1#32
  let arg18 : BitVec 32 := Scf.iv c0_i32_19 c1_i32_20 k0_t10
  let c64_i32_88 : BitVec 32 := 64#32
  let v171 : BitVec 32 := Scalar.muli arg18 c64_i32_88
  let v172 : BitVec 32 := v171
  let v174 : Index := Scalar.indexCast v172
  let c0_90 : Index := 0#32
  ![0, v173.toNat, v174.toNat, 0]
@[reducible] def k0_t14_loop (i : grid0.Coords) : Scf.Loop 32 :=
  let c0_i32_79 : BitVec 32 := 0#32
  let arg1 : BitVec 32 := BitVec.ofNat 32 (i 1).val
  let c1_i32 : BitVec 32 := 1#32
  let v0 : BitVec 32 := Scalar.addi arg1 c1_i32
  let v147 : BitVec 32 := Scalar.subi v0 c0_i32_79
  let c1_i32_80 : BitVec 32 := 1#32
  let v149 : BitVec 32 := Scalar.divsi v147 c1_i32_80
  let v150 : BitVec 32 := Scalar.muli v149 c1_i32_80
  let v151 : BitVec 32 := Scalar.addi c0_i32_79 v150
  let v148 : BitVec 32 := Scalar.addi c0_i32_79 v147
  let c1_i32_82 : BitVec 32 := 1#32
  ⟨v151, v148, c1_i32_82⟩
def k0_mult28 (i : grid0.Coords) (k0_t14 : Fin (k0_t14_loop i).trips) : BitVec 32 :=
  let c0_i32_79 : BitVec 32 := 0#32
  let arg1 : BitVec 32 := BitVec.ofNat 32 (i 1).val
  let c1_i32 : BitVec 32 := 1#32
  let v0 : BitVec 32 := Scalar.addi arg1 c1_i32
  let v147 : BitVec 32 := Scalar.subi v0 c0_i32_79
  let c1_i32_80 : BitVec 32 := 1#32
  let v149 : BitVec 32 := Scalar.divsi v147 c1_i32_80
  let v150 : BitVec 32 := Scalar.muli v149 c1_i32_80
  let v151 : BitVec 32 := Scalar.addi c0_i32_79 v150
  let c1_i32_82 : BitVec 32 := 1#32
  let arg19 : BitVec 32 := Scf.iv v151 c1_i32_82 k0_t14
  let c256_i32_86 : BitVec 32 := 256#32
  let v164 : BitVec 32 := Scalar.muli arg19 c256_i32_86
  v164
def k0_off25 (i : grid0.Coords) (k0_t14 : Fin (k0_t14_loop i).trips) : Fin 2 → Nat :=
  let c0_i32_79 : BitVec 32 := 0#32
  let arg1 : BitVec 32 := BitVec.ofNat 32 (i 1).val
  let c1_i32 : BitVec 32 := 1#32
  let v0 : BitVec 32 := Scalar.addi arg1 c1_i32
  let v147 : BitVec 32 := Scalar.subi v0 c0_i32_79
  let c1_i32_80 : BitVec 32 := 1#32
  let v149 : BitVec 32 := Scalar.divsi v147 c1_i32_80
  let v150 : BitVec 32 := Scalar.muli v149 c1_i32_80
  let v151 : BitVec 32 := Scalar.addi c0_i32_79 v150
  let c1_i32_82 : BitVec 32 := 1#32
  let arg19 : BitVec 32 := Scf.iv v151 c1_i32_82 k0_t14
  let c256_i32_86 : BitVec 32 := 256#32
  let v164 : BitVec 32 := Scalar.muli arg19 c256_i32_86
  let v165 : BitVec 32 := v164
  let v166 : Index := Scalar.indexCast v165
  let c0_87 : Index := 0#32
  ![v166.toNat, 0]
def k0_mult29 (k0_t10 : Fin k0_t10_loop.trips) : BitVec 32 :=
  let c0_i32_19 : BitVec 32 := 0#32
  let c1_i32_20 : BitVec 32 := 1#32
  let arg18 : BitVec 32 := Scf.iv c0_i32_19 c1_i32_20 k0_t10
  let c64_i32_88 : BitVec 32 := 64#32
  let v171 : BitVec 32 := Scalar.muli arg18 c64_i32_88
  v171
def k0_off26 (i : grid0.Coords) (k0_t10 : Fin k0_t10_loop.trips) (k0_t14 : Fin (k0_t14_loop i).trips) : Fin 4 → Nat :=
  let c0_89 : Index := 0#32
  let c0_i32_79 : BitVec 32 := 0#32
  let arg1 : BitVec 32 := BitVec.ofNat 32 (i 1).val
  let c1_i32 : BitVec 32 := 1#32
  let v0 : BitVec 32 := Scalar.addi arg1 c1_i32
  let v147 : BitVec 32 := Scalar.subi v0 c0_i32_79
  let c1_i32_80 : BitVec 32 := 1#32
  let v149 : BitVec 32 := Scalar.divsi v147 c1_i32_80
  let v150 : BitVec 32 := Scalar.muli v149 c1_i32_80
  let v151 : BitVec 32 := Scalar.addi c0_i32_79 v150
  let c1_i32_82 : BitVec 32 := 1#32
  let arg19 : BitVec 32 := Scf.iv v151 c1_i32_82 k0_t14
  let v173 : Index := Scalar.indexCast arg19
  let c0_i32_19 : BitVec 32 := 0#32
  let c1_i32_20 : BitVec 32 := 1#32
  let arg18 : BitVec 32 := Scf.iv c0_i32_19 c1_i32_20 k0_t10
  let c64_i32_88 : BitVec 32 := 64#32
  let v171 : BitVec 32 := Scalar.muli arg18 c64_i32_88
  let v172 : BitVec 32 := v171
  let v174 : Index := Scalar.indexCast v172
  let c0_90 : Index := 0#32
  ![0, v173.toNat, v174.toNat, 0]
def k0_mult30 (k0_t10 : Fin k0_t10_loop.trips) : BitVec 32 :=
  let c0_i32_19 : BitVec 32 := 0#32
  let c1_i32_20 : BitVec 32 := 1#32
  let arg18 : BitVec 32 := Scf.iv c0_i32_19 c1_i32_20 k0_t10
  let c64_i32_84 : BitVec 32 := 64#32
  let v158 : BitVec 32 := Scalar.muli arg18 c64_i32_84
  v158
def k0_off27 (k0_t10 : Fin k0_t10_loop.trips) : Fin 2 → Nat :=
  let c0_i32_19 : BitVec 32 := 0#32
  let c1_i32_20 : BitVec 32 := 1#32
  let arg18 : BitVec 32 := Scf.iv c0_i32_19 c1_i32_20 k0_t10
  let c64_i32_84 : BitVec 32 := 64#32
  let v158 : BitVec 32 := Scalar.muli arg18 c64_i32_84
  let v159 : BitVec 32 := v158
  let v160 : Index := Scalar.indexCast v159
  let c0_85 : Index := 0#32
  ![v160.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2x16x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.Row.lean ====
/-
  The mathematics the calls share, written on plain rows of extended reals: the root-mean-square
  normalisation of one row, and the gated feed-forward block applied to one row.
-/
module

public import Idealize.ShloMosaic.Lib.Pointwise
public import Idealize.ShloMosaic.PureOps.Ideal
public import Idealize.ShloMosaic.Lib.Pipeline.Value

@[expose] public section

noncomputable section

namespace Cert.Row

open Idealize.ShloMosaic

/-- The number of features of a row, `1024`, as the programs spell it. -/
abbrev width : EReal := Ideal.ofBits .f32 0x44800000#32

/-- The small number added to the mean square, as the programs spell it. -/
abbrev eps : EReal := Ideal.ofBits .f32 0x358637BD#32

/-- One half, as the programs spell it. -/
abbrev half : EReal := Ideal.ofBits .f32 0x3F000000#32

/-- The scale of the attention's queries, `64 ** -0.5`. -/
abbrev eighth : EReal := Ideal.ofBits .f32 0x3E000000#32

/-- One over the root of the row's mean square (plus the small number). -/
def scale (x : Fin 1024 → EReal) : EReal := Ideal.rsqrt (Ideal.div (∑ k : Fin 1024, x k * x k) width + eps)

/-- The normalised row, feature by feature times its gain. -/
def norm (x g : Fin 1024 → EReal) (k : Fin 1024) : EReal := x k * scale x * g k

/-- A row against a matrix with `n` columns. -/
def times {k n : ℕ} (h : Fin k → EReal) (w : Fin k → Fin n → EReal) (j : Fin n) : EReal := ∑ i : Fin k, h i * w i j

/-- The hidden row of the gated unit: `silu (h w₁) * (h w₃)`. -/
def gated (h : Fin 1024 → EReal) (w₁ w₃ : Fin 1024 → Fin 2816 → EReal) (f : Fin 2816) : EReal :=
  times h w₁ f * Ideal.logistic (times h w₁ f) * times h w₃ f

/-- The feed-forward block on one row: the row plus half of the gated unit of its normalisation. -/
def ffn (x g : Fin 1024 → EReal) (w₁ w₃ : Fin 1024 → Fin 2816 → EReal) (w₂ : Fin 2816 → Fin 1024 → EReal) (k : Fin 1024) : EReal :=
  x k + half * times (gated (norm x g) w₁ w₃) w₂ k

/-- The block depends only on what its rows and matrices hold. -/
theorem ffn_congr {x x' g g' : Fin 1024 → EReal} {w₁ w₁' w₃ w₃' : Fin 1024 → Fin 2816 → EReal} {w₂ w₂' : Fin 2816 → Fin 1024 → EReal}
    (hx : ∀ k, x k = x' k) (hg : ∀ k, g k = g' k) (h₁ : ∀ k f, w₁ k f = w₁' k f) (h₃ : ∀ k f, w₃ k f = w₃' k f)
    (h₂ : ∀ f k, w₂ f k = w₂' f k) (k : Fin 1024) : ffn x g w₁ w₃ w₂ k = ffn x' g' w₁' w₃' w₂' k := by
  rw [funext hx, funext hg, funext fun k => funext (h₁ k), funext fun k => funext (h₃ k), funext fun f => funext (h₂ f)]

/-- A product of a row with a column depends only on the row and that column. -/
theorem times_congr {k n n' : ℕ} {h h' : Fin k → EReal} {w : Fin k → Fin n → EReal} {w' : Fin k → Fin n' → EReal} {j : Fin n}
    {j' : Fin n'} (hh : ∀ i, h i = h' i) (hw : ∀ i, w i j = w' i j') : times h w j = times h' w' j' :=
  Finset.sum_congr rfl fun i _ => by rw [hh i, hw i]

/-- The normalised row depends only on what the row and the gain hold. -/
theorem norm_congr {x x' g g' : Fin 1024 → EReal} (hx : ∀ k, x k = x' k) (hg : ∀ k, g k = g' k) (k : Fin 1024) :
    norm x g k = norm x' g' k := by
  rw [funext hx, funext hg]

/-- Batch and position flattened into one axis: row `r` is token `(r / 2048, r % 2048)`. -/
theorem flat_apply {α : Type} (x : (⟨3, ![32, 2048, 1024]⟩ : Shape).Idx → α)
    (h : (⟨3, ![32, 2048, 1024]⟩ : Shape).ShapeCasts ⟨2, ![65536, 1024]⟩) (r : Fin 65536) (k : Fin 1024) :
    shapeCast ⟨2, ![65536, 1024]⟩ x h (ix2 r k) = x (ix3 ⟨r.val / 2048, by omega⟩ ⟨r.val % 2048, by omega⟩ k) :=
  shapeCast_apply x h _ _ (by
    rewrite [Shape.rowMajor_val_three, Shape.rowMajor_val_two]
    show (r.val / 2048 * 2048 + r.val % 2048) * 1024 + k.val = r.val * 1024 + k.val
    omega)

end Cert.Row

end
-- ==== Proof.MixRow.lean ====
/-
  The mathematics of the pooling and convolution mixer, written on plain rows of extended reals: the trailing
  window means with their group matrices, the causal depthwise convolution, its normalisation and gate, and the
  five pieces side by side.
-/
module

public import proofs.«01_k».proof.Proof.Row

@[expose] public section

noncomputable section

namespace Cert.Row

open Idealize.ShloMosaic

/-- The number of features of half a row, `512`, as the programs spell it. -/
abbrev halfWidth : EReal := Ideal.ofBits .f32 0x44000000#32

/-- How many positions a trailing window of length `w` holds at position `p`: the lesser of `p + 1` and `w`. -/
abbrev held (p : BitVec 32) (w : ℕ) : EReal :=
  FloatOps.sitofp (F := Ideal) .f32 (IntOp.minsi (IntOp.addi p 1#32) (BitVec.ofNat 32 w))

/-- The mean of the trailing window of length `w` less the present value; `past n k` is the value `n` positions back. -/
def excess (past : ℕ → Fin 128 → EReal) (p : BitVec 32) (w : ℕ) (k : Fin 128) : EReal :=
  Ideal.div (∑ n ∈ Finset.range w, past n k) (held p w) - past 0 k

/-- One group of the pooling: the excess through the group's matrix, feature by feature times its scale. -/
def pooled (past : ℕ → Fin 128 → EReal) (p : BitVec 32) (w : ℕ) (m : Fin 128 → Fin 128 → EReal) (s : Fin 128 → EReal)
    (d : Fin 128) : EReal := times (excess past p w) m d * s d

/-- The causal depthwise convolution with 31 taps, plus its bias; tap `j` reads `30 - j` positions back. -/
def conv (past : ℕ → Fin 512 → EReal) (w : Fin 31 → Fin 512 → EReal) (b : Fin 512 → EReal) (k : Fin 512) : EReal :=
  b k + ∑ j ∈ Finset.range 31, past (30 - j) k * w (Fin.ofNat 31 j) k

/-- The mean of half a row. -/
def mean (y : Fin 512 → EReal) : EReal := Ideal.div (∑ k : Fin 512, y k) halfWidth

/-- Half a row less its mean. -/
def centred (y : Fin 512 → EReal) (k : Fin 512) : EReal := y k - mean y

/-- The layer normalisation of half a row with its gain and shift. -/
def layer (y g b : Fin 512 → EReal) (k : Fin 512) : EReal :=
  centred y k * Ideal.rsqrt (mean (fun k => centred y k * centred y k) + eps) * g k + b k

/-- `silu` of the layer normalisation. -/
def gate (y g b : Fin 512 → EReal) (k : Fin 512) : EReal := layer y g b k * Ideal.logistic (layer y g b k)

/-- Four pieces of 128 features and one of 512, side by side. -/
def beside (a₀ a₁ a₂ a₃ : Fin 128 → EReal) (e : Fin 512 → EReal) (k : Fin 1024) : EReal :=
  if h : k.val < 128 then a₀ ⟨k.val, h⟩
  else if h : k.val - 128 < 128 then a₁ ⟨k.val - 128, h⟩
  else if h : k.val - 128 - 128 < 128 then a₂ ⟨k.val - 128 - 128, h⟩
  else if h : k.val - 128 - 128 - 128 < 128 then a₃ ⟨k.val - 128 - 128 - 128, h⟩
  else e ⟨k.val - 128 - 128 - 128 - 128, by omega⟩

/-- Feature `k` of group `g`. -/
abbrev feature (g : Fin 4) (k : Fin 128) : Fin 512 := ⟨g.val * 128 + k.val, by omega⟩

/-- The mixed row at position `p`: the four pooled groups, whose windows hold 2, 4, 8 and 16 positions, beside the gated
    convolution. `u n k` and `z n k` are the two streams' values `n` positions back. -/
def mixed (u z : ℕ → Fin 512 → EReal) (p : BitVec 32) (pw : Fin 4 → Fin 128 → Fin 128 → EReal) (ps : Fin 512 → EReal)
    (cw : Fin 31 → Fin 512 → EReal) (cb lg lb : Fin 512 → EReal) : Fin 1024 → EReal :=
  beside (pooled (fun n k => u n (feature 0 k)) p 2 (pw 0) fun d => ps (feature 0 d))
    (pooled (fun n k => u n (feature 1 k)) p 4 (pw 1) fun d => ps (feature 1 d))
    (pooled (fun n k => u n (feature 2 k)) p 8 (pw 2) fun d => ps (feature 2 d))
    (pooled (fun n k => u n (feature 3 k)) p 16 (pw 3) fun d => ps (feature 3 d))
    (gate (conv z cw cb) lg lb)

/-- The mixed row depends only on the streams' last 31 values. -/
theorem mixed_congr {u u' z z' : ℕ → Fin 512 → EReal} (hu : ∀ n ≤ 30, ∀ k, u n k = u' n k) (hz : ∀ n ≤ 30, ∀ k, z n k = z' n k)
    (p : BitVec 32) (pw : Fin 4 → Fin 128 → Fin 128 → EReal) (ps : Fin 512 → EReal) (cw : Fin 31 → Fin 512 → EReal) (cb lg lb : Fin 512 → EReal) :
    mixed u z p pw ps cw cb lg lb = mixed u' z' p pw ps cw cb lg lb := by
  have pool : ∀ (w : ℕ) (g : Fin 4), w ≤ 16 →
      excess (fun n k => u n (feature g k)) p w = excess (fun n k => u' n (feature g k)) p w := fun w g hw => funext fun k => by
    have e : ∑ n ∈ Finset.range w, u n (feature g k) = ∑ n ∈ Finset.range w, u' n (feature g k) :=
      Finset.sum_congr rfl fun n hn => hu n (by have := Finset.mem_range.mp hn; omega) _
    simp only [excess, e, hu 0 (Nat.zero_le _)]
  have taps : conv z cw cb = conv z' cw cb := funext fun k => by
    have e : ∑ j ∈ Finset.range 31, z (30 - j) k * cw (Fin.ofNat 31 j) k = ∑ j ∈ Finset.range 31, z' (30 - j) k * cw (Fin.ofNat 31 j) k :=
      Finset.sum_congr rfl fun j _ => by rw [hz (30 - j) (Nat.sub_le _ _)]
    simp only [conv, e]
  unfold mixed pooled
  rw [pool 2 0 (by decide), pool 4 1 (by decide), pool 8 2 (by decide), pool 16 3 (by decide), taps]

/-- The pooling's stream of a projected row: its first 512 features. -/
def first (y : Fin 1536 → EReal) (k : Fin 512) : EReal := y ⟨k.val, by omega⟩

/-- The convolution's stream of a projected row: its next 512 features times the sigmoid of the last 512. -/
def second (y : Fin 1536 → EReal) (k : Fin 512) : EReal := y ⟨512 + k.val, by omega⟩ * Ideal.logistic (y ⟨1024 + k.val, by omega⟩)

/-- The value `n` positions before position `s` of a stream that is zero before its beginning. -/
def before {κ : ℕ} (f : ℕ → Fin κ → EReal) (s n : ℕ) (k : Fin κ) : EReal := if n ≤ s then f (s - n) k else 0

end Cert.Row

namespace Cert.Mix

open Idealize.ShloMosaic

variable (x0 : FVec Ideal ⟨3, ![32, 2048, 1024]⟩ .f32) (x1 : FVec Ideal ⟨1, ![1024]⟩ .f32) (x2 : FVec Ideal ⟨2, ![1024, 1536]⟩ .f32)

/-- Token `(b, s)`, normalised and projected. -/
def project (b : Fin 32) (s : Fin 2048) : Fin 1536 → EReal :=
  Row.times (Row.norm (fun k => x0 (ix3 b s k)) (fun k => x1 (ix1 k))) (fun k j => x2 (ix2 k j))

/-- The pooling's stream along sequence `b`. -/
def pooling (b : Fin 32) (q : ℕ) (k : Fin 512) : EReal := if h : q < 2048 then Row.first (project x0 x1 x2 b ⟨q, h⟩) k else 0

/-- The convolution's stream along sequence `b`. -/
def convolving (b : Fin 32) (q : ℕ) (k : Fin 512) : EReal := if h : q < 2048 then Row.second (project x0 x1 x2 b ⟨q, h⟩) k else 0

variable (x3 : FVec Ideal ⟨3, ![4, 128, 128]⟩ .f32) (x4 : FVec Ideal ⟨1, ![512]⟩ .f32) (x5 : FVec Ideal ⟨2, ![31, 512]⟩ .f32)
    (x6 x7 x8 : FVec Ideal ⟨1, ![512]⟩ .f32) (x9 : FVec Ideal ⟨2, ![1024, 1024]⟩ .f32)

/-- The mixed features of token `(b, s)`. -/
def mixedRow (b : Fin 32) (s : Fin 2048) : Fin 1024 → EReal :=
  Row.mixed (Row.before (pooling x0 x1 x2 b) s.val) (Row.before (convolving x0 x1 x2 b) s.val) (BitVec.ofNat 32 s.val)
    (fun g k d => x3 (ix3 g k d)) (fun d => x4 (ix1 d)) (fun j k => x5 (ix2 j k)) (fun k => x6 (ix1 k)) (fun k => x7 (ix1 k)) (fun k => x8 (ix1 k))

/-- The mixer of every token. -/
def tokens : FVec Ideal ⟨3, ![32, 2048, 1024]⟩ .f32 := fun i =>
  x0 i + Row.times (mixedRow x0 x1 x2 x3 x4 x5 x6 x7 x8 (i 0) (i 1)) (fun k d => x9 (ix2 k d)) (i 2)

end Cert.Mix

end
-- ==== Proof.MixBlock.lean ====
/-
  What one grid point of the pool and convolution mixer computes, read at an index: the two streams the point keeps
  with 32 rows of history before them, and the mixed row over them.
-/
module

public import proofs.«01_k».proof.Proof.MixRow
public import proofs.«01_k».proof.Proof.Gen.MixIdeal.Value
public import Idealize.ShloMosaic.Lib.Pipeline.ValueKit

@[expose] public section

noncomputable section

namespace Cert.MixIdeal

open Idealize.ShloMosaic Cert.MixIdeal.Gen

/-- Row `r` of the block, normalised and projected. -/
abbrev proj (x0 : FVec Ideal S1x512x1024 .f32) (x1 : FVec Ideal S1x1024 .f32) (x2 : FVec Ideal S1024x1536 .bf16) (r : Fin 512) :
    Fin 1536 → EReal :=
  Row.times (Row.norm (fun k => x0 (ix3 0 r k)) (fun k => x1 (ix2 0 k))) (fun k j => x2 (ix2 k j))

theorem proj_apply (x0 : FVec Ideal S1x512x1024 .f32) (x1 : FVec Ideal S1x1024 .f32) (x2 : FVec Ideal S1024x1536 .bf16)
    (r : Fin 512) (j : Fin 1536) : k0_pay7 (F := Ideal) x0 x1 x2 (ix2 r j) = proj x0 x1 x2 r j := by
  pointwise [k0_pay7, k0_pay6, dot_S512x1024_S1024x1536_S512x1536_1_0_0_1_n_n]
  simp only [proj, Row.times, Row.norm, Row.scale]

/-- The pooling's stream: the first 512 projected features. -/
theorem stream0_apply (x0 : FVec Ideal S1x512x1024 .f32) (x1 : FVec Ideal S1x1024 .f32) (x2 : FVec Ideal S1024x1536 .bf16)
    (r : Fin 512) (k : Fin 512) : k0_pay8 (F := Ideal) x0 x1 x2 (ix2 r k) = Row.first (proj x0 x1 x2 r) k := by
  pointwise [k0_pay8, proj_apply]
  rfl

/-- The convolution's stream: the next 512 features times the sigmoid of the last 512. -/
theorem stream1_apply (x0 : FVec Ideal S1x512x1024 .f32) (x1 : FVec Ideal S1x1024 .f32) (x2 : FVec Ideal S1024x1536 .bf16)
    (r : Fin 512) (k : Fin 512) : k0_pay10 (F := Ideal) (k0_pay9 x0 x1 x2) (ix2 r k) = Row.second (proj x0 x1 x2 r) k := by
  pointwise [k0_pay10, k0_pay9, proj_apply]
  rfl

/-- The stream's value `n` positions before row `r` of the block. -/
abbrev past (U : FVec Ideal S544x512 .f32) (r : Fin 512) (n : ℕ) (k : Fin 512) : EReal := U (ix2 ⟨32 - n + r.val, by omega⟩ k)

/-- The position of row `r` of the block whose number in its sequence is `a`. -/
abbrev position (a : BitVec 32) (r : Fin 512) : BitVec 32 := IntOp.addi (Scalar.muli a 512#32) (BitVec.ofNat 32 r.val)

/-- The kernel's pooled group 0, over the stream `U` with its 32 rows of history. -/
def group0 (U : FVec Ideal S544x512 .f32) (a : BitVec 32) (x3 : FVec Ideal S4x128x128 .bf16) (x4 : FVec Ideal S1x512 .f32) : FVec Ideal S512x128 .f32 :=
  k0_pay12 (F := Ideal) a (View.ld (Val := Elt Ideal) (e' := .f32) U (Rect.unit ![32, 0] ![512, 128] inb_S544x512_S512x128_32_0))
    (View.ld (Val := Elt Ideal) (e' := .f32) U (Rect.unit ![31, 0] ![512, 128] inb_S544x512_S512x128_31_0))
    (View.ld (Val := Elt Ideal) (e' := .bf16) x3 (Rect.unit ![0, 0, 0] ![1, 128, 128] inb_S4x128x128_S1x128x128_0_0_0))
    (View.ld (Val := Elt Ideal) (e' := .f32) x4 (Rect.unit ![0, 0] ![1, 128] inb_S1x512_S1x128_0_0))

/-- The kernel's pooled group 1, over the stream `U` with its 32 rows of history. -/
def group1 (U : FVec Ideal S544x512 .f32) (a : BitVec 32) (x3 : FVec Ideal S4x128x128 .bf16) (x4 : FVec Ideal S1x512 .f32) : FVec Ideal S512x128 .f32 :=
  k0_pay14 (F := Ideal) (View.ld (Val := Elt Ideal) (e' := .f32) U (Rect.unit ![32, 128] ![512, 128] inb_S544x512_S512x128_32_128))
    (k0_pay13 (F := Ideal) a (View.ld (Val := Elt Ideal) (e' := .f32) U (Rect.unit ![32, 128] ![512, 128] inb_S544x512_S512x128_32_128))
    (View.ld (Val := Elt Ideal) (e' := .f32) U (Rect.unit ![31, 128] ![512, 128] inb_S544x512_S512x128_31_128))
    (View.ld (Val := Elt Ideal) (e' := .f32) U (Rect.unit ![30, 128] ![512, 128] inb_S544x512_S512x128_30_128))
    (View.ld (Val := Elt Ideal) (e' := .f32) U (Rect.unit ![29, 128] ![512, 128] inb_S544x512_S512x128_29_128)))
    (View.ld (Val := Elt Ideal) (e' := .bf16) x3 (Rect.unit ![1, 0, 0] ![1, 128, 128] inb_S4x128x128_S1x128x128_1_0_0))
    (View.ld (Val := Elt Ideal) (e' := .f32) x4 (Rect.unit ![0, 128] ![1, 128] inb_S1x512_S1x128_0_128))

/-- The kernel's pooled group 2, over the stream `U` with its 32 rows of history. -/
def group2 (U : FVec Ideal S544x512 .f32) (a : BitVec 32) (x3 : FVec Ideal S4x128x128 .bf16) (x4 : FVec Ideal S1x512 .f32) : FVec Ideal S512x128 .f32 :=
  k0_pay16 (F := Ideal)
    (k0_pay15 (F := Ideal) (k0_pay11 a)
    (View.ld (Val := Elt Ideal) (e' := .f32) U (Rect.unit ![32, 256] ![512, 128] inb_S544x512_S512x128_32_256))
    (View.ld (Val := Elt Ideal) (e' := .f32) U (Rect.unit ![31, 256] ![512, 128] inb_S544x512_S512x128_31_256))
    (View.ld (Val := Elt Ideal) (e' := .f32) U (Rect.unit ![30, 256] ![512, 128] inb_S544x512_S512x128_30_256))
    (View.ld (Val := Elt Ideal) (e' := .f32) U (Rect.unit ![29, 256] ![512, 128] inb_S544x512_S512x128_29_256))
    (View.ld (Val := Elt Ideal) (e' := .f32) U (Rect.unit ![28, 256] ![512, 128] inb_S544x512_S512x128_28_256))
    (View.ld (Val := Elt Ideal) (e' := .f32) U (Rect.unit ![27, 256] ![512, 128] inb_S544x512_S512x128_27_256))
    (View.ld (Val := Elt Ideal) (e' := .f32) U (Rect.unit ![26, 256] ![512, 128] inb_S544x512_S512x128_26_256))
    (View.ld (Val := Elt Ideal) (e' := .f32) U (Rect.unit ![25, 256] ![512, 128] inb_S544x512_S512x128_25_256)))
    (View.ld (Val := Elt Ideal) (e' := .bf16) x3 (Rect.unit ![2, 0, 0] ![1, 128, 128] inb_S4x128x128_S1x128x128_2_0_0))
    (View.ld (Val := Elt Ideal) (e' := .f32) x4 (Rect.unit ![0, 256] ![1, 128] inb_S1x512_S1x128_0_256))

/-- The kernel's pooled group 3, over the stream `U` with its 32 rows of history. -/
def group3 (U : FVec Ideal S544x512 .f32) (a : BitVec 32) (x3 : FVec Ideal S4x128x128 .bf16) (x4 : FVec Ideal S1x512 .f32) : FVec Ideal S512x128 .f32 :=
  k0_pay18 (F := Ideal) (k0_pay11 a)
    (View.ld (Val := Elt Ideal) (e' := .f32) U (Rect.unit ![32, 384] ![512, 128] inb_S544x512_S512x128_32_384))
    (k0_pay17 (F := Ideal) (View.ld (Val := Elt Ideal) (e' := .f32) U (Rect.unit ![32, 384] ![512, 128] inb_S544x512_S512x128_32_384))
    (View.ld (Val := Elt Ideal) (e' := .f32) U (Rect.unit ![31, 384] ![512, 128] inb_S544x512_S512x128_31_384))
    (View.ld (Val := Elt Ideal) (e' := .f32) U (Rect.unit ![30, 384] ![512, 128] inb_S544x512_S512x128_30_384))
    (View.ld (Val := Elt Ideal) (e' := .f32) U (Rect.unit ![29, 384] ![512, 128] inb_S544x512_S512x128_29_384))
    (View.ld (Val := Elt Ideal) (e' := .f32) U (Rect.unit ![28, 384] ![512, 128] inb_S544x512_S512x128_28_384))
    (View.ld (Val := Elt Ideal) (e' := .f32) U (Rect.unit ![27, 384] ![512, 128] inb_S544x512_S512x128_27_384))
    (View.ld (Val := Elt Ideal) (e' := .f32) U (Rect.unit ![26, 384] ![512, 128] inb_S544x512_S512x128_26_384))
    (View.ld (Val := Elt Ideal) (e' := .f32) U (Rect.unit ![25, 384] ![512, 128] inb_S544x512_S512x128_25_384))
    (View.ld (Val := Elt Ideal) (e' := .f32) U (Rect.unit ![24, 384] ![512, 128] inb_S544x512_S512x128_24_384))
    (View.ld (Val := Elt Ideal) (e' := .f32) U (Rect.unit ![23, 384] ![512, 128] inb_S544x512_S512x128_23_384))
    (View.ld (Val := Elt Ideal) (e' := .f32) U (Rect.unit ![22, 384] ![512, 128] inb_S544x512_S512x128_22_384))
    (View.ld (Val := Elt Ideal) (e' := .f32) U (Rect.unit ![21, 384] ![512, 128] inb_S544x512_S512x128_21_384))
    (View.ld (Val := Elt Ideal) (e' := .f32) U (Rect.unit ![20, 384] ![512, 128] inb_S544x512_S512x128_20_384)))
    (View.ld (Val := Elt Ideal) (e' := .f32) U (Rect.unit ![19, 384] ![512, 128] inb_S544x512_S512x128_19_384))
    (View.ld (Val := Elt Ideal) (e' := .f32) U (Rect.unit ![18, 384] ![512, 128] inb_S544x512_S512x128_18_384))
    (View.ld (Val := Elt Ideal) (e' := .f32) U (Rect.unit ![17, 384] ![512, 128] inb_S544x512_S512x128_17_384))
    (View.ld (Val := Elt Ideal) (e' := .bf16) x3 (Rect.unit ![3, 0, 0] ![1, 128, 128] inb_S4x128x128_S1x128x128_3_0_0))
    (View.ld (Val := Elt Ideal) (e' := .f32) x4 (Rect.unit ![0, 384] ![1, 128] inb_S1x512_S1x128_0_384))

/-- The kernel's convolution up to its tap 27, over the stream `Z` with its 32 rows of history. -/
def taps (Z : FVec Ideal S544x512 .f32) (x5 : FVec Ideal S31x512 .f32) (x6 : FVec Ideal S1x512 .f32) : FVec Ideal S512x512 .f32 :=
  k0_pay24 (F := Ideal)
    (k0_pay23 (F := Ideal)
    (k0_pay22 (F := Ideal)
    (k0_pay20 (F := Ideal)
    (k0_pay19 (F := Ideal) x6 (View.ld (Val := Elt Ideal) (e' := .f32) Z (Rect.unit ![2, 0] ![512, 512] inb_S544x512_S512x512_2_0))
    (View.ld (Val := Elt Ideal) (e' := .f32) x5 (Rect.unit ![0, 0] ![1, 512] inb_S31x512_S1x512_0_0))
    (View.ld (Val := Elt Ideal) (e' := .f32) Z (Rect.unit ![3, 0] ![512, 512] inb_S544x512_S512x512_3_0))
    (View.ld (Val := Elt Ideal) (e' := .f32) x5 (Rect.unit ![1, 0] ![1, 512] inb_S31x512_S1x512_1_0)))
    (View.ld (Val := Elt Ideal) (e' := .f32) Z (Rect.unit ![4, 0] ![512, 512] inb_S544x512_S512x512_4_0))
    (View.ld (Val := Elt Ideal) (e' := .f32) x5 (Rect.unit ![2, 0] ![1, 512] inb_S31x512_S1x512_2_0))
    (View.ld (Val := Elt Ideal) (e' := .f32) Z (Rect.unit ![5, 0] ![512, 512] inb_S544x512_S512x512_5_0))
    (View.ld (Val := Elt Ideal) (e' := .f32) x5 (Rect.unit ![3, 0] ![1, 512] inb_S31x512_S1x512_3_0))
    (View.ld (Val := Elt Ideal) (e' := .f32) Z (Rect.unit ![6, 0] ![512, 512] inb_S544x512_S512x512_6_0))
    (View.ld (Val := Elt Ideal) (e' := .f32) x5 (Rect.unit ![4, 0] ![1, 512] inb_S31x512_S1x512_4_0))
    (View.ld (Val := Elt Ideal) (e' := .f32) Z (Rect.unit ![7, 0] ![512, 512] inb_S544x512_S512x512_7_0))
    (View.ld (Val := Elt Ideal) (e' := .f32) x5 (Rect.unit ![5, 0] ![1, 512] inb_S31x512_S1x512_5_0))
    (View.ld (Val := Elt Ideal) (e' := .f32) Z (Rect.unit ![8, 0] ![512, 512] inb_S544x512_S512x512_8_0))
    (View.ld (Val := Elt Ideal) (e' := .f32) x5 (Rect.unit ![6, 0] ![1, 512] inb_S31x512_S1x512_6_0))
    (View.ld (Val := Elt Ideal) (e' := .f32) Z (Rect.unit ![9, 0] ![512, 512] inb_S544x512_S512x512_9_0))
    (View.ld (Val := Elt Ideal) (e' := .f32) x5 (Rect.unit ![7, 0] ![1, 512] inb_S31x512_S1x512_7_0)))
    (View.ld (Val := Elt Ideal) (e' := .f32) Z (Rect.unit ![10, 0] ![512, 512] inb_S544x512_S512x512_10_0))
    (k0_pay21 (F := Ideal) (View.ld (Val := Elt Ideal) (e' := .f32) x5 (Rect.unit ![8, 0] ![1, 512] inb_S31x512_S1x512_8_0)))
    (View.ld (Val := Elt Ideal) (e' := .f32) Z (Rect.unit ![11, 0] ![512, 512] inb_S544x512_S512x512_11_0))
    (View.ld (Val := Elt Ideal) (e' := .f32) x5 (Rect.unit ![9, 0] ![1, 512] inb_S31x512_S1x512_9_0))
    (View.ld (Val := Elt Ideal) (e' := .f32) Z (Rect.unit ![12, 0] ![512, 512] inb_S544x512_S512x512_12_0))
    (View.ld (Val := Elt Ideal) (e' := .f32) x5 (Rect.unit ![10, 0] ![1, 512] inb_S31x512_S1x512_10_0))
    (View.ld (Val := Elt Ideal) (e' := .f32) Z (Rect.unit ![13, 0] ![512, 512] inb_S544x512_S512x512_13_0))
    (View.ld (Val := Elt Ideal) (e' := .f32) x5 (Rect.unit ![11, 0] ![1, 512] inb_S31x512_S1x512_11_0))
    (View.ld (Val := Elt Ideal) (e' := .f32) Z (Rect.unit ![14, 0] ![512, 512] inb_S544x512_S512x512_14_0))
    (View.ld (Val := Elt Ideal) (e' := .f32) x5 (Rect.unit ![12, 0] ![1, 512] inb_S31x512_S1x512_12_0))
    (View.ld (Val := Elt Ideal) (e' := .f32) Z (Rect.unit ![15, 0] ![512, 512] inb_S544x512_S512x512_15_0))
    (View.ld (Val := Elt Ideal) (e' := .f32) x5 (Rect.unit ![13, 0] ![1, 512] inb_S31x512_S1x512_13_0))
    (View.ld (Val := Elt Ideal) (e' := .f32) Z (Rect.unit ![16, 0] ![512, 512] inb_S544x512_S512x512_16_0))
    (View.ld (Val := Elt Ideal) (e' := .f32) x5 (Rect.unit ![14, 0] ![1, 512] inb_S31x512_S1x512_14_0)))
    (View.ld (Val := Elt Ideal) (e' := .f32) Z (Rect.unit ![17, 0] ![512, 512] inb_S544x512_S512x512_17_0))
    (View.ld (Val := Elt Ideal) (e' := .f32) x5 (Rect.unit ![15, 0] ![1, 512] inb_S31x512_S1x512_15_0))
    (View.ld (Val := Elt Ideal) (e' := .f32) Z (Rect.unit ![18, 0] ![512, 512] inb_S544x512_S512x512_18_0))
    (View.ld (Val := Elt Ideal) (e' := .f32) x5 (Rect.unit ![16, 0] ![1, 512] inb_S31x512_S1x512_16_0))
    (View.ld (Val := Elt Ideal) (e' := .f32) Z (Rect.unit ![19, 0] ![512, 512] inb_S544x512_S512x512_19_0))
    (View.ld (Val := Elt Ideal) (e' := .f32) x5 (Rect.unit ![17, 0] ![1, 512] inb_S31x512_S1x512_17_0))
    (View.ld (Val := Elt Ideal) (e' := .f32) Z (Rect.unit ![20, 0] ![512, 512] inb_S544x512_S512x512_20_0))
    (View.ld (Val := Elt Ideal) (e' := .f32) x5 (Rect.unit ![18, 0] ![1, 512] inb_S31x512_S1x512_18_0))
    (View.ld (Val := Elt Ideal) (e' := .f32) Z (Rect.unit ![21, 0] ![512, 512] inb_S544x512_S512x512_21_0))
    (View.ld (Val := Elt Ideal) (e' := .f32) x5 (Rect.unit ![19, 0] ![1, 512] inb_S31x512_S1x512_19_0))
    (View.ld (Val := Elt Ideal) (e' := .f32) Z (Rect.unit ![22, 0] ![512, 512] inb_S544x512_S512x512_22_0))
    (View.ld (Val := Elt Ideal) (e' := .f32) x5 (Rect.unit ![20, 0] ![1, 512] inb_S31x512_S1x512_20_0))
    (View.ld (Val := Elt Ideal) (e' := .f32) Z (Rect.unit ![23, 0] ![512, 512] inb_S544x512_S512x512_23_0))
    (View.ld (Val := Elt Ideal) (e' := .f32) x5 (Rect.unit ![21, 0] ![1, 512] inb_S31x512_S1x512_21_0)))
    (View.ld (Val := Elt Ideal) (e' := .f32) Z (Rect.unit ![24, 0] ![512, 512] inb_S544x512_S512x512_24_0))
    (View.ld (Val := Elt Ideal) (e' := .f32) x5 (Rect.unit ![22, 0] ![1, 512] inb_S31x512_S1x512_22_0))
    (View.ld (Val := Elt Ideal) (e' := .f32) Z (Rect.unit ![25, 0] ![512, 512] inb_S544x512_S512x512_25_0))
    (View.ld (Val := Elt Ideal) (e' := .f32) x5 (Rect.unit ![23, 0] ![1, 512] inb_S31x512_S1x512_23_0))
    (View.ld (Val := Elt Ideal) (e' := .f32) Z (Rect.unit ![26, 0] ![512, 512] inb_S544x512_S512x512_26_0))
    (View.ld (Val := Elt Ideal) (e' := .f32) x5 (Rect.unit ![24, 0] ![1, 512] inb_S31x512_S1x512_24_0))
    (View.ld (Val := Elt Ideal) (e' := .f32) Z (Rect.unit ![27, 0] ![512, 512] inb_S544x512_S512x512_27_0))
    (View.ld (Val := Elt Ideal) (e' := .f32) x5 (Rect.unit ![25, 0] ![1, 512] inb_S31x512_S1x512_25_0))
    (View.ld (Val := Elt Ideal) (e' := .f32) Z (Rect.unit ![28, 0] ![512, 512] inb_S544x512_S512x512_28_0))
    (View.ld (Val := Elt Ideal) (e' := .f32) x5 (Rect.unit ![26, 0] ![1, 512] inb_S31x512_S1x512_26_0))
    (View.ld (Val := Elt Ideal) (e' := .f32) Z (Rect.unit ![29, 0] ![512, 512] inb_S544x512_S512x512_29_0))
    (View.ld (Val := Elt Ideal) (e' := .f32) x5 (Rect.unit ![27, 0] ![1, 512] inb_S31x512_S1x512_27_0))

theorem group0_apply (U : FVec Ideal S544x512 .f32) (a : BitVec 32) (x3 : FVec Ideal S4x128x128 .bf16) (x4 : FVec Ideal S1x512 .f32)
    (r : Fin 512) (d : Fin 128) : group0 U a x3 x4 (ix2 r d)
      = Row.pooled (fun n k => past U r n (Row.feature 0 k)) (position a r) 2 (fun k d => x3 (ix3 0 k d)) (fun d => x4 (ix2 0 (Row.feature 0 d))) d := by
  unfold group0
  pointwise [k0_pay12, k0_pay11, dot_S512x128_S128x128_S512x128_1_0_0_1_n_n]
  simp only [Row.pooled, Row.times, Row.excess, Finset.sum_range_succ, Finset.sum_range_zero, zero_add, past, position, Row.feature,
    Nat.reduceSub, Fin.isValue, Fin.coe_ofNat_eq_mod, Nat.reduceMod, Nat.reduceMul, zero_mul]

theorem group1_apply (U : FVec Ideal S544x512 .f32) (a : BitVec 32) (x3 : FVec Ideal S4x128x128 .bf16) (x4 : FVec Ideal S1x512 .f32)
    (r : Fin 512) (d : Fin 128) : group1 U a x3 x4 (ix2 r d)
      = Row.pooled (fun n k => past U r n (Row.feature 1 k)) (position a r) 4 (fun k d => x3 (ix3 1 k d)) (fun d => x4 (ix2 0 (Row.feature 1 d))) d := by
  unfold group1
  pointwise [k0_pay14, k0_pay13, k0_pay11, dot_S512x128_S128x128_S512x128_1_0_0_1_n_n]
  simp only [Row.pooled, Row.times, Row.excess, Finset.sum_range_succ, Finset.sum_range_zero, zero_add, past, position, Row.feature,
    Nat.reduceSub, Fin.isValue, Fin.coe_ofNat_eq_mod, Nat.reduceMod, Nat.reduceMul, zero_mul]

theorem group2_apply (U : FVec Ideal S544x512 .f32) (a : BitVec 32) (x3 : FVec Ideal S4x128x128 .bf16) (x4 : FVec Ideal S1x512 .f32)
    (r : Fin 512) (d : Fin 128) : group2 U a x3 x4 (ix2 r d)
      = Row.pooled (fun n k => past U r n (Row.feature 2 k)) (position a r) 8 (fun k d => x3 (ix3 2 k d)) (fun d => x4 (ix2 0 (Row.feature 2 d))) d := by
  unfold group2
  pointwise [k0_pay16, k0_pay15, k0_pay11, dot_S512x128_S128x128_S512x128_1_0_0_1_n_n]
  simp only [Row.pooled, Row.times, Row.excess, Finset.sum_range_succ, Finset.sum_range_zero, zero_add, past, position, Row.feature,
    Nat.reduceSub, Fin.isValue, Fin.coe_ofNat_eq_mod, Nat.reduceMod, Nat.reduceMul, zero_mul]

theorem group3_apply (U : FVec Ideal S544x512 .f32) (a : BitVec 32) (x3 : FVec Ideal S4x128x128 .bf16) (x4 : FVec Ideal S1x512 .f32)
    (r : Fin 512) (d : Fin 128) : group3 U a x3 x4 (ix2 r d)
      = Row.pooled (fun n k => past U r n (Row.feature 3 k)) (position a r) 16 (fun k d => x3 (ix3 3 k d)) (fun d => x4 (ix2 0 (Row.feature 3 d))) d := by
  unfold group3
  pointwise [k0_pay18, k0_pay17, k0_pay11, dot_S512x128_S128x128_S512x128_1_0_0_1_n_n]
  simp only [Row.pooled, Row.times, Row.excess, Finset.sum_range_succ, Finset.sum_range_zero, zero_add, past, position, Row.feature,
    Nat.reduceSub, Fin.isValue, Fin.coe_ofNat_eq_mod, Nat.reduceMod, Nat.reduceMul, zero_mul]

/-- What the kernel stores, over the two streams with their 32 rows of history. -/
def body (a : BitVec 32) (U Z : FVec Ideal S544x512 .f32) (x0 : FVec Ideal S1x512x1024 .f32) (x3 : FVec Ideal S4x128x128 .bf16)
    (x4 : FVec Ideal S1x512 .f32) (x5 : FVec Ideal S31x512 .f32) (x6 x7 x8 : FVec Ideal S1x512 .f32) (x9 : FVec Ideal S1024x1024 .bf16) :
    FVec Ideal S1x512x1024 .f32 :=
  k0_pay1 (F := Ideal) (k0_pay6 (F := Ideal) x0)
    (k0_pay26 (F := Ideal)
    (group0 U a x3 x4)
    (group1 U a x3 x4)
    (group2 U a x3 x4)
    (group3 U a x3 x4) (taps Z x5 x6) (View.ld (Val := Elt Ideal) (e' := .f32) Z (Rect.unit ![30, 0] ![512, 512] inb_S544x512_S512x512_30_0))
    (k0_pay25 (F := Ideal) (View.ld (Val := Elt Ideal) (e' := .f32) x5 (Rect.unit ![28, 0] ![1, 512] inb_S31x512_S1x512_28_0)))
    (View.ld (Val := Elt Ideal) (e' := .f32) Z (Rect.unit ![31, 0] ![512, 512] inb_S544x512_S512x512_31_0))
    (View.ld (Val := Elt Ideal) (e' := .f32) x5 (Rect.unit ![29, 0] ![1, 512] inb_S31x512_S1x512_29_0))
    (View.ld (Val := Elt Ideal) (e' := .f32) Z (Rect.unit ![32, 0] ![512, 512] inb_S544x512_S512x512_32_0))
    (View.ld (Val := Elt Ideal) (e' := .f32) x5 (Rect.unit ![30, 0] ![1, 512] inb_S31x512_S1x512_30_0)) x7 x8)
    x9

/-- The four pooled groups beside the gated convolution, whose last three taps are added here. -/
theorem beside_apply (a₀ a₁ a₂ a₃ : FVec Ideal S512x128 .f32) (y z₂₈ w₂₈ z₂₉ z₃₀ : FVec Ideal S512x512 .f32) (w₂₉ w₃₀ g b : FVec Ideal S1x512 .f32)
    (r : Fin 512) (k : Fin 1024) : k0_pay26 (F := Ideal) a₀ a₁ a₂ a₃ y z₂₈ w₂₈ z₂₉ w₂₉ z₃₀ w₃₀ g b (ix2 r k)
      = Row.beside (fun d => a₀ (ix2 r d)) (fun d => a₁ (ix2 r d)) (fun d => a₂ (ix2 r d)) (fun d => a₃ (ix2 r d))
        (Row.gate (fun k => y (ix2 r k) + z₂₈ (ix2 r k) * w₂₈ (ix2 r k) + z₂₉ (ix2 r k) * w₂₉ (ix2 0 k) + z₃₀ (ix2 r k) * w₃₀ (ix2 0 k))
          (fun k => g (ix2 0 k)) (fun k => b (ix2 0 k))) k := by
  pointwise [k0_pay26]
  rfl

/-- The convolution up to its tap 27. -/
theorem taps_apply (Z : FVec Ideal S544x512 .f32) (x5 : FVec Ideal S31x512 .f32) (x6 : FVec Ideal S1x512 .f32) (r k : Fin 512) :
    taps Z x5 x6 (ix2 r k) = x6 (ix2 0 k) + ∑ j ∈ Finset.range 28, past Z r (30 - j) k * x5 (ix2 (Fin.ofNat 31 j) k) := by
  unfold taps
  pointwise [k0_pay19, k0_pay20, k0_pay21, k0_pay22, k0_pay23, k0_pay24]
  simp only [Finset.sum_range_succ, Finset.sum_range_zero, zero_add, past, Nat.reduceSub, ← add_assoc]
  rfl

/-- What the kernel stores: the row plus its mixed row through the output weights. -/
theorem body_apply (a : BitVec 32) (U Z : FVec Ideal S544x512 .f32) (x0 : FVec Ideal S1x512x1024 .f32) (x3 : FVec Ideal S4x128x128 .bf16)
    (x4 : FVec Ideal S1x512 .f32) (x5 : FVec Ideal S31x512 .f32) (x6 x7 x8 : FVec Ideal S1x512 .f32) (x9 : FVec Ideal S1024x1024 .bf16)
    (r : Fin 512) (d : Fin 1024) : body a U Z x0 x3 x4 x5 x6 x7 x8 x9 (ix3 0 r d)
      = x0 (ix3 0 r d) + Row.times (Row.mixed (past U r) (past Z r) (position a r) (fun g k d => x3 (ix3 g k d)) (fun d => x4 (ix2 0 d))
        (fun j k => x5 (ix2 j k)) (fun k => x6 (ix2 0 k)) (fun k => x7 (ix2 0 k)) (fun k => x8 (ix2 0 k))) (fun k d => x9 (ix2 k d)) d := by
  unfold body
  pointwise [k0_pay1, k0_pay6, dot_S512x1024_S1024x1024_S512x1024_1_0_0_1_n_n, beside_apply, group0_apply, group1_apply, group2_apply,
    group3_apply, k0_pay25, taps_apply]
  simp only [Row.times, Row.mixed]
  congr! 4
  refine congrArg (fun y => Row.gate y (fun k => x7 (ix2 0 k)) (fun k => x8 (ix2 0 k))) (funext fun k => ?_)
  rw [Row.conv, Finset.sum_range_succ _ 30, Finset.sum_range_succ _ 29, Finset.sum_range_succ _ 28, ← add_assoc, ← add_assoc, ← add_assoc]
  rfl

/-- What is read from a buffer whose stores are known, a load of the buffer's contents. -/
theorem readCov_ld {Val : EltTy → Type} [∀ e, Nonempty (Val e)] {κ sp} {S : Shape} {e : EltTy} (v : View sig κ sp S e)
    (L : List (View.Piece Val S e)) (r : Rect S) : v.readCov L r.toLoadRect = View.ld (View.canon L) r := by
  rw [View.readCov_eq_canon']

/-- The two stores of a stream: 512 rows of the point's own below 32 rows of history. -/
abbrev stores (h : FVec Ideal S32x512 .f32) (p : FVec Ideal S512x512 .f32) : List (View.Piece (Elt Ideal) S544x512 .f32) :=
  [⟨Rect.unit (s := S544x512) ![32, 0] ![512, 512] inb_S544x512_S512x512_32_0, p⟩,
    ⟨Rect.unit (s := S544x512) ![0, 0] ![32, 512] inb_S544x512_S32x512_0_0, h⟩]

/-- A stream with its history. -/
abbrev stream (h : FVec Ideal S32x512 .f32) (p : FVec Ideal S512x512 .f32) : FVec Ideal S544x512 .f32 := View.canon (stores h p)

/-- The two stores fill the stream. -/
theorem stores_cover (h : FVec Ideal S32x512 .f32) (p : FVec Ideal S512x512 .f32) (n : Fin 544) (k : Fin 512) :
    ∃ q ∈ stores h p, (ix2 n k : S544x512.Idx) ∈ q.fst.set := by
  by_cases hn : n.val < 32
  · refine ⟨⟨Rect.unit (s := S544x512) ![0, 0] ![32, 512] inb_S544x512_S32x512_0_0, h⟩, List.mem_cons_of_mem _ (List.mem_cons_self ..),
      (Rect.mem_set_unit (inb := inb_S544x512_S32x512_0_0)).mpr fun a => ?_⟩
    match a with
    | ⟨0, _⟩ => exact ⟨Nat.zero_le _, show n.val < 0 + 32 by omega⟩
    | ⟨1, _⟩ => exact ⟨Nat.zero_le _, show k.val < 0 + 512 by omega⟩
  · refine ⟨⟨Rect.unit (s := S544x512) ![32, 0] ![512, 512] inb_S544x512_S512x512_32_0, p⟩, List.mem_cons_self ..,
      (Rect.mem_set_unit (inb := inb_S544x512_S512x512_32_0)).mpr fun a => ?_⟩
    match a with
    | ⟨0, _⟩ => exact ⟨show 32 ≤ n.val by omega, show n.val < 32 + 512 by omega⟩
    | ⟨1, _⟩ => exact ⟨Nat.zero_le _, show k.val < 0 + 512 by omega⟩

/-- The stream's row `n` is row `n` of the history, or row `n - 32` of the point's own. -/
theorem stream_apply (h : FVec Ideal S32x512 .f32) (p : FVec Ideal S512x512 .f32) (n : Fin 544) (k : Fin 512) :
    stream h p (ix2 n k) = if hn : n.val < 32 then h (ix2 ⟨n.val, hn⟩ k) else p (ix2 ⟨n.val - 32, by omega⟩ k) := by
  canon_tiles x hx using stores_cover h p n k
  · have h0 : n.val = 32 + (x 0).val := hx0
    have h1 : k.val = (x 1).val := hx1
    rw [dif_neg (by omega)]
    refine congrArg p (funext fun a => ?_)
    match a with
    | ⟨0, _⟩ => exact Fin.ext (show (x 0).val = n.val - 32 by omega)
    | ⟨1, _⟩ => exact Fin.ext h1.symm
  · have h0 : n.val = (x 0).val := hx0
    have h1 : k.val = (x 1).val := hx1
    rw [dif_pos (by omega)]
    refine congrArg h (funext fun a => ?_)
    match a with
    | ⟨0, _⟩ => exact Fin.ext h0.symm
    | ⟨1, _⟩ => exact Fin.ext h1.symm

/-- A stream whose rows are a sequence from position `512 j` on, and whose history is the 32 values before them, holds the
    sequence's values before every row. -/
theorem past_eq {h : FVec Ideal S32x512 .f32} {p : FVec Ideal S512x512 .f32} {f : ℕ → Fin 512 → EReal} {j : ℕ}
    (hp : ∀ (r k : Fin 512), p (ix2 r k) = f (512 * j + r.val) k)
    (hh : ∀ (n : Fin 32) (k : Fin 512), h (ix2 n k) = if 32 ≤ 512 * j + n.val then f (512 * j + n.val - 32) k else 0)
    (r : Fin 512) (n : ℕ) (hn : n ≤ 30) (k : Fin 512) : past (stream h p) r n k = Row.before f (512 * j + r.val) n k := by
  have hr := r.isLt
  rw [past, stream_apply, Row.before]
  split
  · next hlt =>
    have hlt' : 32 - n + r.val < 32 := hlt
    rw [hh]
    by_cases hle : n ≤ 512 * j + r.val
    · rw [if_pos (by show 32 ≤ 512 * j + (32 - n + r.val); omega), if_pos hle]
      exact congrArg (f · k) (show 512 * j + (32 - n + r.val) - 32 = 512 * j + r.val - n by omega)
    · rw [if_neg (by show ¬32 ≤ 512 * j + (32 - n + r.val); omega), if_neg hle]
  · next hge =>
    have hge' : ¬32 - n + r.val < 32 := hge
    rw [hp, if_pos (by omega)]
    exact congrArg (f · k) (show 512 * j + (32 - n + r.val - 32) = 512 * j + r.val - n by omega)

/-- The position of row `r` of block `j`, as the programs' word. -/
theorem position_eq (j : ℕ) (r : Fin 512) : position (BitVec.ofNat 32 j) r = BitVec.ofNat 32 (512 * j + r.val) := by
  show BitVec.ofNat 32 j * 512#32 + BitVec.ofNat 32 r.val = _
  rw [BitVec.ofNat_add, BitVec.ofNat_mul, BitVec.mul_comm]

section Cases
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S544x512 .f32) (harg13 : arg13.IsWhole) (arg14 : Memref sig .tc .vmem S544x512 .f32) (harg14 : arg14.IsWhole)
    (x0 : Vec Ideal S1x512x1024 .f32) (x1 : Vec Ideal S1x1024 .f32) (x2 : Vec Ideal S1024x1536 .bf16) (x3 : Vec Ideal S4x128x128 .bf16) (x4 : Vec Ideal S1x512 .f32) (x5 : Vec Ideal S31x512 .f32) (x6 : Vec Ideal S1x512 .f32) (x7 : Vec Ideal S1x512 .f32) (x8 : Vec Ideal S1x512 .f32) (x9 : Vec Ideal S1024x1024 .bf16) (xs0 : Vec Ideal S544x512 .f32) (xs1 : Vec Ideal S544x512 .f32)

/-- At a sequence's first block the history is zero. -/
theorem first_out (hc0 : cond0_0 i) (hc1 : ¬cond0_1 i) :
    out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9
      = body (BitVec.ofNat 32 (i 1)) (stream k0_pay2 (k0_pay8 x0 x1 x2)) (stream k0_pay3 (k0_pay10 (k0_pay9 x0 x1 x2))) x0 x3 x4 x5 x6 x7 x8 x9 := by
  frame_out
  simp only [readCov_ld]
  rfl

theorem first_stream0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9
      = stream k0_pay2 (k0_pay8 x0 x1 x2) := by
  frame_out

theorem first_stream1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9
      = stream k0_pay3 (k0_pay10 (k0_pay9 x0 x1 x2)) := by
  frame_out

/-- At a later block the history is the last 32 rows of the streams left by the block before. -/
theorem next_out (hc0 : ¬cond0_0 i) (hc1 : cond0_1 i) :
    out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1
      = body (BitVec.ofNat 32 (i 1)) (stream (k0_pay4 (View.ld (Val := Elt Ideal) (e' := .f32) xs0 (Rect.unit (s := S544x512) ![512, 0] ![32, 512] inb_S544x512_S32x512_512_0))) (k0_pay8 x0 x1 x2))
          (stream (k0_pay5 (View.ld (Val := Elt Ideal) (e' := .f32) xs1 (Rect.unit (s := S544x512) ![512, 0] ![32, 512] inb_S544x512_S32x512_512_0))) (k0_pay10 (k0_pay9 x0 x1 x2))) x0 x3 x4 x5 x6 x7 x8 x9 := by
  frame_out
  simp only [readCov_ld]
  rfl

theorem next_stream0 (hc0 : ¬cond0_0 i) (hc1 : cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1
      = stream (k0_pay4 (View.ld (Val := Elt Ideal) (e' := .f32) xs0 (Rect.unit (s := S544x512) ![512, 0] ![32, 512] inb_S544x512_S32x512_512_0))) (k0_pay8 x0 x1 x2) := by
  frame_out

theorem next_stream1 (hc0 : ¬cond0_0 i) (hc1 : cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1
      = stream (k0_pay5 (View.ld (Val := Elt Ideal) (e' := .f32) xs1 (Rect.unit (s := S544x512) ![512, 0] ![32, 512] inb_S544x512_S32x512_512_0))) (k0_pay10 (k0_pay9 x0 x1 x2)) := by
  frame_out

end Cases

end Cert.MixIdeal

end
-- ==== Proof.MixArray.lean ====
/-
  What the pool and convolution mixer leaves in its result array: the mixer of every token, over the arguments as launched.
-/
module

public import proofs.«01_k».proof.Proof.MixBlock
public import Idealize.ShloMosaic.Lib.Pipeline.ValueKit

@[expose] public section

noncomputable section

namespace Cert.MixIdeal.Value

open Cert.MixIdeal Cert.MixIdeal.Gen Idealize.ShloMosaic Idealize.ShloMosaic.TcCoe Idealize.SL.Sem
open Idealize.ShloMosaic.Pipeline (Dat)
open Cert.Mix (project pooling convolving mixedRow tokens)

variable (m : (ℓ : Loc nD τ sig) → Buf (Elt Ideal) ℓ) (ρ : Dev nD → PrngReg)

/-- There are 128 grid points. -/
theorem lt_N (t : Fin cfg0.N) : t.val < 128 := t.isLt.trans_eq N_0

/-- Grid point `t` is sequence `t / 4`, stretch `t % 4` of 512 tokens; it reads and writes that stretch. -/
theorem idx0 (t : Fin cfg0.N) : win0_0.index t = ![t.val / 4, t.val % 4, 0] ∧ win0_10.index t = ![t.val / 4, t.val % 4, 0]
    ∧ ((grid0.coords t) 1).val = t.val % 4 :=
  (by decide +kernel : ∀ t : Fin grid0.N, win0_0.index t = ![t.val / 4, t.val % 4, 0] ∧ win0_10.index t = ![t.val / 4, t.val % 4, 0]
    ∧ ((grid0.coords t) 1).val = t.val % 4) t

/-- Every other operand is whole at every grid point. -/
theorem idx1 (t : Fin cfg0.N) : win0_1.index t = ![0, 0] ∧ win0_2.index t = ![0, 0] ∧ win0_3.index t = ![0, 0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, win0_1.index t = ![0, 0] ∧ win0_2.index t = ![0, 0] ∧ win0_3.index t = ![0, 0, 0]
    ∧ win0_4.index t = ![0, 0] ∧ win0_5.index t = ![0, 0] ∧ win0_6.index t = ![0, 0] ∧ win0_7.index t = ![0, 0] ∧ win0_8.index t = ![0, 0]
    ∧ win0_9.index t = ![0, 0]) t

section Blocks

variable (c : Dev nD) (t : Fin cfg0.N)

/-- The sequence of grid point `t`. -/
abbrev seq : Fin 32 := ⟨t.val / 4, by have := lt_N t; omega⟩

/-- The token in row `r` of grid point `t`'s block. -/
abbrev tok (r : Fin 512) : Fin 2048 := ⟨512 * (t.val % 4) + r.val, by omega⟩

theorem blk0 (r : Fin 512) (k : Fin 1024) : iblk m c 0 t (ix3 0 r k) = m ((c : Thread nD τ).loc main_arg0) (ix3 (seq t) (tok t r) k) := by
  obtain ⟨e, -, -⟩ := idx0 t
  blk_simp [iblk]
  refine (congrArg (V m c main_arg0) (show (win0_0.blk t).view.emb (ix3 0 r k) = ix3 (seq t) (tok t r) k by blk_ext [e])).trans ?_
  rfl

theorem blk1 (k : Fin 1024) : iblk m c 1 t (ix2 0 k) = m ((c : Thread nD τ).loc main_arg1) (ix1 k) := by
  obtain ⟨e, -⟩ := idx1 t
  blk_simp [iblk]
  refine (congrArg (V m c main_v0) (show (win0_1.blk t).view.emb (ix2 0 k) = ix2 0 k by blk_ext [e])).trans ?_
  entry_read
  pointwise

theorem blk2 (k : Fin 1024) (j : Fin 1536) : iblk m c 2 t (ix2 k j) = m ((c : Thread nD τ).loc main_arg2) (ix2 k j) := by
  obtain ⟨-, e, -⟩ := idx1 t
  blk_simp [iblk]
  refine (congrArg (V m c main_v1) (show (win0_2.blk t).view.emb (ix2 k j) = ix2 k j by blk_ext [e])).trans ?_
  entry_read
  rfl

theorem blk3 (g : Fin 4) (k d : Fin 128) : iblk m c 3 t (ix3 g k d) = m ((c : Thread nD τ).loc main_arg3) (ix3 g k d) := by
  obtain ⟨-, -, e, -⟩ := idx1 t
  blk_simp [iblk]
  refine (congrArg (V m c main_v2) (show (win0_3.blk t).view.emb (ix3 g k d) = ix3 g k d by blk_ext [e])).trans ?_
  entry_read
  rfl

theorem blk4 (k : Fin 512) : iblk m c 4 t (ix2 0 k) = m ((c : Thread nD τ).loc main_arg4) (ix1 k) := by
  obtain ⟨-, -, -, e, -⟩ := idx1 t
  blk_simp [iblk]
  refine (congrArg (V m c main_v3) (show (win0_4.blk t).view.emb (ix2 0 k) = ix2 0 k by blk_ext [e])).trans ?_
  entry_read
  pointwise

theorem blk5 (j : Fin 31) (k : Fin 512) : iblk m c 5 t (ix2 j k) = m ((c : Thread nD τ).loc main_arg5) (ix2 j k) := by
  obtain ⟨-, -, -, -, e, -⟩ := idx1 t
  blk_simp [iblk]
  refine (congrArg (V m c main_arg5) (show (win0_5.blk t).view.emb (ix2 j k) = ix2 j k by blk_ext [e])).trans ?_
  rfl

theorem blk6 (k : Fin 512) : iblk m c 6 t (ix2 0 k) = m ((c : Thread nD τ).loc main_arg6) (ix1 k) := by
  obtain ⟨-, -, -, -, -, e, -⟩ := idx1 t
  blk_simp [iblk]
  refine (congrArg (V m c main_v4) (show (win0_6.blk t).view.emb (ix2 0 k) = ix2 0 k by blk_ext [e])).trans ?_
  entry_read
  pointwise

theorem blk7 (k : Fin 512) : iblk m c 7 t (ix2 0 k) = m ((c : Thread nD τ).loc main_arg7) (ix1 k) := by
  obtain ⟨-, -, -, -, -, -, e, -⟩ := idx1 t
  blk_simp [iblk]
  refine (congrArg (V m c main_v5) (show (win0_7.blk t).view.emb (ix2 0 k) = ix2 0 k by blk_ext [e])).trans ?_
  entry_read
  pointwise

theorem blk8 (k : Fin 512) : iblk m c 8 t (ix2 0 k) = m ((c : Thread nD τ).loc main_arg8) (ix1 k) := by
  obtain ⟨-, -, -, -, -, -, -, e, -⟩ := idx1 t
  blk_simp [iblk]
  refine (congrArg (V m c main_v6) (show (win0_8.blk t).view.emb (ix2 0 k) = ix2 0 k by blk_ext [e])).trans ?_
  entry_read
  pointwise

theorem blk9 (k d : Fin 1024) : iblk m c 9 t (ix2 k d) = m ((c : Thread nD τ).loc main_arg9) (ix2 k d) := by
  obtain ⟨-, -, -, -, -, -, -, -, e⟩ := idx1 t
  blk_simp [iblk]
  refine (congrArg (V m c main_v7) (show (win0_9.blk t).view.emb (ix2 k d) = ix2 k d by blk_ext [e])).trans ?_
  entry_read
  rfl

/-- The pooling's stream over the arguments as launched. -/
abbrev poolAt (b : Fin 32) : ℕ → Fin 512 → EReal :=
  pooling (m ((c : Thread nD τ).loc main_arg0)) (m ((c : Thread nD τ).loc main_arg1)) (m ((c : Thread nD τ).loc main_arg2)) b

/-- The convolution's stream over the arguments as launched. -/
abbrev convAt (b : Fin 32) : ℕ → Fin 512 → EReal :=
  convolving (m ((c : Thread nD τ).loc main_arg0)) (m ((c : Thread nD τ).loc main_arg1)) (m ((c : Thread nD τ).loc main_arg2)) b

/-- A row of the block projected is the token projected. -/
theorem proj_eq (r : Fin 512) : proj (iblk m c 0 t) (iblk m c 1 t) (iblk m c 2 t) r
    = project (m ((c : Thread nD τ).loc main_arg0)) (m ((c : Thread nD τ).loc main_arg1)) (m ((c : Thread nD τ).loc main_arg2)) (seq t) (tok t r) := by
  refine funext fun j => Row.times_congr (fun k => Row.norm_congr (fun k => blk0 m c t r k) (fun k => blk1 m c t k) k) fun k => blk2 m c t k j

/-- The block's own rows of the pooling's stream. -/
theorem own0 (r k : Fin 512) : k0_pay8 (F := Ideal) (iblk m c 0 t) (iblk m c 1 t) (iblk m c 2 t) (ix2 r k)
    = poolAt m c (seq t) (512 * (t.val % 4) + r.val) k := by
  rw [stream0_apply, proj_eq, poolAt, pooling, dif_pos (show 512 * (t.val % 4) + r.val < 2048 from (tok t r).isLt)]

/-- The block's own rows of the convolution's stream. -/
theorem own1 (r k : Fin 512) : k0_pay10 (F := Ideal) (k0_pay9 (iblk m c 0 t) (iblk m c 1 t) (iblk m c 2 t)) (ix2 r k)
    = convAt m c (seq t) (512 * (t.val % 4) + r.val) k := by
  rw [stream1_apply, proj_eq, convAt, convolving, dif_pos (show 512 * (t.val % 4) + r.val < 2048 from (tok t r).isLt)]

/-- The point's two streams as it leaves them, whatever history came with them: from row 32 on, the block's own rows. -/
theorem kept (n : Fin 544) (k : Fin 512) (hn : 32 ≤ n.val) :
    (outsAt0 m c t.val t.isLt).2.1 (ix2 n k) = poolAt m c (seq t) (512 * (t.val % 4) + n.val - 32) k
    ∧ (outsAt0 m c t.val t.isLt).2.2 (ix2 n k) = convAt m c (seq t) (512 * (t.val % 4) + n.val - 32) k := by
  have e : 512 * (t.val % 4) + (n.val - 32) = 512 * (t.val % 4) + n.val - 32 := by omega
  have h0 : ∀ h, stream h (k0_pay8 (F := Ideal) (iblk m c 0 t) (iblk m c 1 t) (iblk m c 2 t)) (ix2 n k)
      = poolAt m c (seq t) (512 * (t.val % 4) + n.val - 32) k := fun h => by
    rw [stream_apply, dif_neg (by omega), own0]
    exact congrArg (poolAt m c (seq t) · k) e
  have h1 : ∀ h, stream h (k0_pay10 (F := Ideal) (k0_pay9 (iblk m c 0 t) (iblk m c 1 t) (iblk m c 2 t))) (ix2 n k)
      = convAt m c (seq t) (512 * (t.val % 4) + n.val - 32) k := fun h => by
    rw [stream_apply, dif_neg (by omega), own1]
    exact congrArg (convAt m c (seq t) · k) e
  by_cases hz : t.val % 4 = 0
  · rw [outsAt0_A m c t hz (by omega)]
    dsimp only
    rw [first_stream0, first_stream1]
    exact ⟨h0 _, h1 _⟩
  · rw [outsAt0_B m c t hz (by omega)]
    dsimp only
    rw [next_stream0, next_stream1]
    exact ⟨h0 _, h1 _⟩

/-- The tail of a stream, read as the next block's history. -/
theorem tail0 (xs : Vec Ideal S544x512 .f32) (n : Fin 32) (k : Fin 512) :
    k0_pay4 (View.ld (Val := Elt Ideal) (e' := .f32) xs (Rect.unit (s := S544x512) ![512, 0] ![32, 512] inb_S544x512_S32x512_512_0)) (ix2 n k)
      = xs (ix2 ⟨512 + n.val, by omega⟩ k) := by
  unfold k0_pay4
  pointwise

theorem tail1 (xs : Vec Ideal S544x512 .f32) (n : Fin 32) (k : Fin 512) :
    k0_pay5 (View.ld (Val := Elt Ideal) (e' := .f32) xs (Rect.unit (s := S544x512) ![512, 0] ![32, 512] inb_S544x512_S32x512_512_0)) (ix2 n k)
      = xs (ix2 ⟨512 + n.val, by omega⟩ k) := by
  unfold k0_pay5
  pointwise

/-- What the body leaves in the point's block, given the two histories: the mixer of the block's tokens. -/
theorem body_eq {h h' : FVec Ideal S32x512 .f32}
    (hh : ∀ (n : Fin 32) (k : Fin 512), h (ix2 n k)
      = if 32 ≤ 512 * (t.val % 4) + n.val then poolAt m c (seq t) (512 * (t.val % 4) + n.val - 32) k else 0)
    (hh' : ∀ (n : Fin 32) (k : Fin 512), h' (ix2 n k)
      = if 32 ≤ 512 * (t.val % 4) + n.val then convAt m c (seq t) (512 * (t.val % 4) + n.val - 32) k else 0)
    (r : Fin 512) (d : Fin 1024) :
    body (BitVec.ofNat 32 ((grid0.coords t) 1)) (stream h (k0_pay8 (F := Ideal) (iblk m c 0 t) (iblk m c 1 t) (iblk m c 2 t)))
        (stream h' (k0_pay10 (F := Ideal) (k0_pay9 (iblk m c 0 t) (iblk m c 1 t) (iblk m c 2 t))))
        (iblk m c 0 t) (iblk m c 3 t) (iblk m c 4 t) (iblk m c 5 t) (iblk m c 6 t) (iblk m c 7 t) (iblk m c 8 t) (iblk m c 9 t) (ix3 0 r d)
      = tokens (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (ix3 (seq t) (tok t r) d) := by
  rw [body_apply, (idx0 t).2.2, position_eq, Row.mixed_congr (past_eq (own0 m c t) hh r) (past_eq (own1 m c t) hh' r)]
  refine congrArg₂ (· + ·) (blk0 m c t r d) (Row.times_congr (fun k => congrFun ?_ k) fun k => blk9 m c t k d)
  have e3 := funext fun g => funext fun k => funext fun d => blk3 m c t g k d
  have e4 := funext fun k => blk4 m c t k
  have e5 := funext fun j => funext fun k => blk5 m c t j k
  have e6 := funext fun k => blk6 m c t k
  have e7 := funext fun k => blk7 m c t k
  have e8 := funext fun k => blk8 m c t k
  rw [e3, e4, e5, e6, e7, e8]
  rfl

/-- At a sequence's first stretch there is nothing before it. -/
theorem start (hz : t.val % 4 = 0) (f : ℕ → Fin 512 → EReal) (n : Fin 32) (k : Fin 512) :
    (0 : EReal) = if 32 ≤ 512 * (t.val % 4) + n.val then f (512 * (t.val % 4) + n.val - 32) k else 0 :=
  (if_neg (by omega)).symm

/-- At a later stretch the 32 values before it are the last rows that the stretch before left. -/
theorem carried (hz : ¬t.val % 4 = 0) (n : Fin 32) (k : Fin 512) :
    (outsAt0 m c (t.val - 1) (by have := lt_N t; have := N_0; omega)).2.1 (ix2 ⟨512 + n.val, by omega⟩ k)
      = (if 32 ≤ 512 * (t.val % 4) + n.val then poolAt m c (seq t) (512 * (t.val % 4) + n.val - 32) k else 0)
    ∧ (outsAt0 m c (t.val - 1) (by have := lt_N t; have := N_0; omega)).2.2 (ix2 ⟨512 + n.val, by omega⟩ k)
      = (if 32 ≤ 512 * (t.val % 4) + n.val then convAt m c (seq t) (512 * (t.val % 4) + n.val - 32) k else 0) := by
  have hlt : t.val - 1 < cfg0.N := by have := t.isLt; omega
  have hs : seq ⟨t.val - 1, hlt⟩ = seq t := Fin.ext (show (t.val - 1) / 4 = t.val / 4 by omega)
  have hp : 512 * ((t.val - 1) % 4) + (512 + n.val) - 32 = 512 * (t.val % 4) + n.val - 32 := by omega
  have h := kept m c ⟨t.val - 1, hlt⟩ ⟨512 + n.val, by omega⟩ k (show 32 ≤ 512 + n.val by omega)
  rw [hs] at h
  rw [if_pos (by omega), if_pos (by omega)]
  exact ⟨h.1.trans (congrArg (poolAt m c (seq t) · k) hp), h.2.trans (congrArg (convAt m c (seq t) · k) hp)⟩

/-- What the point leaves in its block of the result. -/
theorem point (r : Fin 512) (d : Fin 1024) : (outsAt0 m c t.val t.isLt).1 (ix3 0 r d)
    = tokens (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (ix3 (seq t) (tok t r) d) := by
  by_cases hz : t.val % 4 = 0
  · rw [outsAt0_A m c t hz (by omega)]
    dsimp only
    rw [first_out]
    exact body_eq m c t (fun n k => (show k0_pay2 (F := Ideal) (ix2 n k) = 0 by unfold k0_pay2; pointwise).trans (start t hz _ n k))
      (fun n k => (show k0_pay3 (F := Ideal) (ix2 n k) = 0 by unfold k0_pay3; pointwise).trans (start t hz _ n k)) r d
  · rw [outsAt0_B m c t hz (by omega)]
    dsimp only
    rw [next_out]
    exact body_eq m c t (fun n k => (tail0 _ n k).trans (carried m c t hz n k).1) (fun n k => (tail1 _ n k).trans (carried m c t hz n k).2) r d

end Blocks

/-- The result array ends as the mixer of every token. -/
theorem final (c : Dev nD) : (dats m 0 c).arrAt 10 cfg0.N
    = tokens (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 10 _ (by decide +kernel) fun t hf y => ?_
  blk_simp
  rw [after0_10]
  obtain ⟨-, e, -⟩ := idx0 t
  idx_vars y
  obtain rfl : y0 = 0 := Subsingleton.elim _ _
  have h : (win0_10.blk t).view.emb (ix3 0 y1 y2) = ix3 (seq t) (tok t y1) y2 := by blk_ext [e]
  rw [h]
  exact point m c t y1 y2

end Cert.MixIdeal.Value

end
-- ==== Proof.MixRead.lean ====
/-
  The mixer's reference read at an index.
-/
module

public import proofs.«01_k».proof.Proof.MixRow
public import proofs.«01_k».proof.Proof.Gen.MixRefIdeal.Read
public import Idealize.ShloMosaic.Lib.Pipeline.ValueKit

@[expose] public section

noncomputable section

namespace Cert.MixRefIdeal.Read

open Idealize.ShloMosaic Cert.MixRefIdeal.Gen Cert.Mix

/-- A fold that adds is the first value plus the sum of what it adds. -/
theorem foldl_add {ι : Type} (f : ι → EReal) (l : List ι) (v : EReal) : l.foldl (fun r i => r + f i) v = v + (l.map f).sum := by
  induction l generalizing v with
  | nil => simp
  | cons a l ih => simp only [List.foldl_cons, List.map_cons, List.sum_cons, ih, add_assoc]

/-- The trailing window sum: the sum of the last `w` values along the second axis, those before the beginning being zero. -/
theorem window_apply {w l : ℕ} (hw : l + 1 = w) (x : FVec Ideal S32x2048x128 .f32) (init : FVec Ideal S_ .f32) (hi : ∀ i, init i = 0)
    (h : S32x2048x128.ReduceWindows ![1, w, 1] ![1, 1, 1] ![0, l, 0] ![0, 0, 0] S32x2048x128) (hu : 0 < S_.numel)
    (b : Fin 32) (s : Fin 2048) (d : Fin 128) :
    Host.reduceWindowAdd ![1, w, 1] ![1, 1, 1] ![0, l, 0] ![0, 0, 0] x init h hu (ix3 b s d)
      = ∑ n ∈ Finset.range w, if n ≤ s.val then (if hq : s.val - n < 2048 then x (ix3 b ⟨s.val - n, hq⟩ d) else 0) else 0 := by
  subst hw
  have hs := s.isLt
  let W : Shape := ⟨3, ![1, l + 1, 1]⟩
  have hW : W.numel = l + 1 := by simp [W, Shape.numel, Fin.prod_univ_three]
  have pos : ∀ n : Fin W.numel, (W.rowMajor.symm n 0).val = 0 ∧ (W.rowMajor.symm n 1).val = n.val ∧ (W.rowMajor.symm n 2).val = 0 := fun n => by
    have h0 : (W.rowMajor.symm n 0).val < 1 := (W.rowMajor.symm n 0).isLt
    have h2 : (W.rowMajor.symm n 2).val < 1 := (W.rowMajor.symm n 2).isLt
    have e : (W.rowMajor (W.rowMajor.symm n)).val = n.val := by rw [Equiv.apply_symm_apply]
    rw [Shape.rowMajor_val_three] at e
    change ((W.rowMajor.symm n 0).val * (l + 1) + (W.rowMajor.symm n 1).val) * 1 + (W.rowMajor.symm n 2).val = n.val at e
    refine ⟨by omega, ?_, by omega⟩
    rw [show (W.rowMajor.symm n 0).val = 0 by omega] at e
    omega
  let G : ℕ → EReal := fun m => if l ≤ s.val + m then (if hq : s.val + m - l < 2048 then x (ix3 b ⟨s.val + m - l, hq⟩ d) else 0) else 0
  have hv : init (Shape.Idx.first hu) = 0 := hi _
  refine Eq.trans (b := (List.finRange W.numel).foldl (fun r n => r + G n.val) 0) ?_ ?_
  · show Host.reduceWindow (· + ·) ![1, l + 1, 1] ![1, 1, 1] ![0, l, 0] ![0, 0, 0] x init h hu (ix3 b s d) = _
    unfold Host.reduceWindow
    dsimp only
    rw [hv]
    refine congrArg (fun f => List.foldl f (0 : EReal) (List.finRange W.numel)) (funext fun r => funext fun n => congrArg (r + ·) ?_)
    obtain ⟨p0, p1, p2⟩ := pos n
    split
    · next hin =>
      have h1 := hin 1
      change l ≤ s.val * 1 + (W.rowMajor.symm n 1).val ∧ s.val * 1 + (W.rowMajor.symm n 1).val - l < 2048 at h1
      rw [p1] at h1
      show _ = if l ≤ s.val + n.val then _ else _
      rw [if_pos (by omega), dif_pos (by omega)]
      refine congrArg x (funext fun a => Fin.ext ?_)
      match a with
      | ⟨0, _⟩ =>
        show b.val * 1 + (W.rowMajor.symm n 0).val - 0 = b.val
        omega
      | ⟨1, _⟩ =>
        show s.val * 1 + (W.rowMajor.symm n 1).val - l = s.val + n.val - l
        rw [p1, Nat.mul_one]
      | ⟨2, _⟩ =>
        show d.val * 1 + (W.rowMajor.symm n 2).val - 0 = d.val
        omega
    · next hin =>
      refine (if_neg fun hle => hin fun a => ?_).symm
      have hn : n.val < l + 1 := n.isLt.trans_eq hW
      match a with
      | ⟨0, _⟩ =>
        show 0 ≤ b.val * 1 + (W.rowMajor.symm n 0).val ∧ b.val * 1 + (W.rowMajor.symm n 0).val - 0 < 32
        omega
      | ⟨1, _⟩ =>
        show l ≤ s.val * 1 + (W.rowMajor.symm n 1).val ∧ s.val * 1 + (W.rowMajor.symm n 1).val - l < 2048
        omega
      | ⟨2, _⟩ =>
        show 0 ≤ d.val * 1 + (W.rowMajor.symm n 2).val ∧ d.val * 1 + (W.rowMajor.symm n 2).val - 0 < 128
        omega
  · rw [foldl_add, zero_add, ← List.ofFn_eq_map, List.sum_ofFn, Fin.sum_univ_eq_sum_range G, hW, ← Finset.sum_range_reflect]
    refine Finset.sum_congr rfl fun n hn => ?_
    have hn' := Finset.mem_range.mp hn
    show (if l ≤ s.val + (l + 1 - 1 - n) then _ else _) = _
    by_cases hle : n ≤ s.val
    · have e : s.val + (l + 1 - 1 - n) - l = s.val - n := by omega
      rw [if_pos (by omega), if_pos hle]
      simp only [e]
    · rw [if_neg (by omega), if_neg hle]

variable (x0 : FVec Ideal S32x2048x1024 .f32) (x1 : FVec Ideal S1024 .f32) (x2 : FVec Ideal S1024x1536 .f32)

theorem project_apply (b : Fin 32) (s : Fin 2048) (j : Fin 1536) :
    val_main_v13 (F := Ideal) x0 x1 x2 (ix3 b s j) = project x0 x1 x2 b s j := by
  pointwise [val_main_v13, val_main_v12, val_main_v11, val_main_v10, val_main_v9, val_main_v8,
    val_main_v7, val_main_v6, val_main_v5, val_main_cst_1, val_main_v4, val_main_v3, val_main_cst_0, val_main_v2, val_main_v1,
    val_main_cst, val_main_v0, dot_S32x2048x1024_S1024x1536_S32x2048x1536_2_0_01_1_n_n]
  simp only [project, Row.times, Row.norm, Row.scale]

theorem u_apply (b : Fin 32) (s : Fin 2048) (g : Fin 4) (k : Fin 128) :
    val_main_v17 (F := Ideal) x0 x1 x2 (ix4 b s g k) = Row.first (project x0 x1 x2 b s) (Row.feature g k) := by
  pointwise [val_main_v17, val_main_v14, project_apply]
  rfl

theorem z_apply (b : Fin 32) (s : Fin 2048) (k : Fin 512) :
    val_main_v86 (F := Ideal) x0 x1 x2 (ix3 b s k) = Row.second (project x0 x1 x2 b s) k := by
  pointwise [val_main_v86, val_main_v85, val_main_v84, val_main_cst_14, val_main_v83, val_main_v82, val_main_cst_13, val_main_v81, val_main_v80, val_main_v16, val_main_v15, project_apply]
  simp only [Row.second, Ideal.logistic]

/-- A trailing window sum of one group of the pooling's stream. -/
theorem window_stream {w l : ℕ} (g : Fin 4) (hw : l + 1 = w) (x : FVec Ideal S32x2048x128 .f32)
    (hx : ∀ (b : Fin 32) (q : Fin 2048) (d : Fin 128), x (ix3 b q d) = Row.first (project x0 x1 x2 b q) (Row.feature g d))
    (init : FVec Ideal S_ .f32) (hi : ∀ i, init i = 0)
    (h : S32x2048x128.ReduceWindows ![1, w, 1] ![1, 1, 1] ![0, l, 0] ![0, 0, 0] S32x2048x128) (hu : 0 < S_.numel)
    (b : Fin 32) (s : Fin 2048) (d : Fin 128) :
    Host.reduceWindowAdd ![1, w, 1] ![1, 1, 1] ![0, l, 0] ![0, 0, 0] x init h hu (ix3 b s d)
      = ∑ n ∈ Finset.range w, Row.before (pooling x0 x1 x2 b) s.val n (Row.feature g d) := by
  rw [window_apply hw x init hi h hu b s d]
  simp only [hx, Row.before, pooling]

/-- The present value of the pooling's stream. -/
theorem present (b : Fin 32) (s : Fin 2048) (k : Fin 512) :
    Row.before (pooling x0 x1 x2 b) s.val 0 k = Row.first (project x0 x1 x2 b s) k := by
  simp only [Row.before, pooling, Nat.zero_le, if_true, Nat.sub_zero, s.isLt, dif_pos]

theorem mean0_apply (b : Fin 32) (s : Fin 2048) (k : Fin 128) : val_main_v72 (F := Ideal) x0 x1 x2 (ix4 b s 0 k)
    = Row.excess (fun n k => Row.before (pooling x0 x1 x2 b) s.val n (Row.feature 0 k)) (BitVec.ofNat 32 s.val) 2 k := by
  pointwise [val_main_v72, val_main_v71, val_main_v67, val_main_v30, val_main_v29, val_main_v28, val_main_v27, val_main_v26, val_main_v25, val_main_c_3, val_main_v24, val_main_v23, val_main_c, val_main_v18, u_apply]
  rw [val_main_v22, window_stream x0 x1 x2 0 rfl _ (fun b q d => by pointwise [val_main_v20, val_main_v19, u_apply]) _ (fun i => by pointwise [val_main_v21, val_main_cst_2])]
  simp only [Row.excess, present]

theorem mean1_apply (b : Fin 32) (s : Fin 2048) (k : Fin 128) : val_main_v72 (F := Ideal) x0 x1 x2 (ix4 b s 1 k)
    = Row.excess (fun n k => Row.before (pooling x0 x1 x2 b) s.val n (Row.feature 1 k)) (BitVec.ofNat 32 s.val) 4 k := by
  pointwise [val_main_v72, val_main_v71, val_main_v68, val_main_v42, val_main_v41, val_main_v40, val_main_v39, val_main_v38, val_main_v37, val_main_c_6, val_main_v36, val_main_v35, val_main_c_5, val_main_v18, u_apply]
  rw [val_main_v34, window_stream x0 x1 x2 1 rfl _ (fun b q d => by pointwise [val_main_v32, val_main_v31, u_apply]) _ (fun i => by pointwise [val_main_v33, val_main_cst_4])]
  simp only [Row.excess, present]

theorem mean2_apply (b : Fin 32) (s : Fin 2048) (k : Fin 128) : val_main_v72 (F := Ideal) x0 x1 x2 (ix4 b s 2 k)
    = Row.excess (fun n k => Row.before (pooling x0 x1 x2 b) s.val n (Row.feature 2 k)) (BitVec.ofNat 32 s.val) 8 k := by
  pointwise [val_main_v72, val_main_v71, val_main_v69, val_main_v54, val_main_v53, val_main_v52, val_main_v51, val_main_v50, val_main_v49, val_main_c_9, val_main_v48, val_main_v47, val_main_c_8, val_main_v18, u_apply]
  rw [val_main_v46, window_stream x0 x1 x2 2 rfl _ (fun b q d => by pointwise [val_main_v44, val_main_v43, u_apply]) _ (fun i => by pointwise [val_main_v45, val_main_cst_7])]
  simp only [Row.excess, present]

theorem mean3_apply (b : Fin 32) (s : Fin 2048) (k : Fin 128) : val_main_v72 (F := Ideal) x0 x1 x2 (ix4 b s 3 k)
    = Row.excess (fun n k => Row.before (pooling x0 x1 x2 b) s.val n (Row.feature 3 k)) (BitVec.ofNat 32 s.val) 16 k := by
  pointwise [val_main_v72, val_main_v71, val_main_v70, val_main_v66, val_main_v65, val_main_v64, val_main_v63, val_main_v62, val_main_v61, val_main_c_12, val_main_v60, val_main_v59, val_main_c_11, val_main_v18, u_apply]
  rw [val_main_v58, window_stream x0 x1 x2 3 rfl _ (fun b q d => by pointwise [val_main_v56, val_main_v55, u_apply]) _ (fun i => by pointwise [val_main_v57, val_main_cst_10])]
  simp only [Row.excess, present]

variable (x3 : FVec Ideal S4x128x128 .f32) (x4 : FVec Ideal S512 .f32) (x5 : FVec Ideal S31x512 .f32) (x6 x7 x8 : FVec Ideal S512 .f32)
    (x9 : FVec Ideal S1024x1024 .f32)

/-- The pooled features: the excess of each group through the group's matrix, scaled. -/
theorem pooled_apply (b : Fin 32) (s : Fin 2048) (g : Fin 4) (d : Fin 128) (k : Fin 512) (hk : k.val = g.val * 128 + d.val) :
    val_main_v79 (F := Ideal) x0 x1 x2 x3 x4 (ix3 b s k)
      = Row.times (fun c => val_main_v72 (F := Ideal) x0 x1 x2 (ix4 b s g c)) (fun c d => x3 (ix3 g c d)) d * x4 (ix1 (Row.feature g d)) := by
  pointwise [val_main_v79, val_main_v78, val_main_v77, val_main_v76, val_main_v75, val_main_v74, val_main_v73,
    dot_S4x128x128_S32x2048x4x128_S4x128x32x2048_1_3_2_01_0_2]
  have e₁ : (⟨k.val / 128, by omega⟩ : Fin 4) = g := Fin.ext (show k.val / 128 = g.val by omega)
  have e₂ : (⟨k.val % 128, by omega⟩ : Fin 128) = d := Fin.ext (show k.val % 128 = d.val by omega)
  have e₃ : k = Row.feature g d := Fin.ext hk
  rw [e₁, e₂, ← e₃]
  simp only [Row.times, mul_comm]

/-- The convolution's stream padded with 30 zeros before its beginning: what tap `j` reads. -/
theorem padded_apply (b : Fin 32) (s : Fin 2048) (k : Fin 512) (j : ℕ) (hj : j ≤ 30) (h : j + s.val < 2078) :
    val_main_v87 (F := Ideal) x0 x1 x2 (ix3 b ⟨j + s.val, h⟩ k) = Row.before (convolving x0 x1 x2 b) s.val (30 - j) k := by
  have hs := s.isLt
  pointwise [val_main_v87, val_main_call0_v0, val_main_c_15, z_apply]
  have zero : FloatOps.sitofp (F := Ideal) .f32 0#32 = 0 := by
    show ((((0#32 : BitVec 32).toInt : ℝ)) : EReal) = 0
    simp
  simp only [Row.before, convolving, zero]
  by_cases hq : 30 - j ≤ s.val
  · have e : j + s.val - 30 = s.val - (30 - j) := by omega
    rw [dif_pos (by omega), if_pos hq, dif_pos (by omega)]
    simp only [e]
  · rw [dif_neg (by omega), if_neg hq]

/-- The convolution with its bias. -/
theorem conv_apply (b : Fin 32) (s : Fin 2048) (k : Fin 512) : val_main_v308 (F := Ideal) x0 x1 x2 x5 x6 (ix3 b s k)
    = Row.conv (Row.before (convolving x0 x1 x2 b) s.val) (fun j k => x5 (ix2 j k)) (fun k => x6 (ix1 k)) k := by
  pointwise [val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_cst_16]
  have first := padded_apply x0 x1 x2 b s k 0 (Nat.zero_le _) (by omega)
  simp only [zero_add, Nat.sub_zero] at first
  rw [first]
  simp only [padded_apply, Nat.reduceLeDiff, Row.conv, Finset.sum_range_succ, Finset.sum_range_zero, zero_add, Nat.reduceSub]
  rw [add_comm]
  rfl

/-- The gated convolution. -/
theorem gate_apply (b : Fin 32) (s : Fin 2048) (k : Fin 512) : val_main_v333 (F := Ideal) x0 x1 x2 x5 x6 x7 x8 (ix3 b s k)
    = Row.gate (Row.conv (Row.before (convolving x0 x1 x2 b) s.val) (fun j k => x5 (ix2 j k)) (fun k => x6 (ix1 k)))
      (fun k => x7 (ix1 k)) (fun k => x8 (ix1 k)) k := by
  pointwise [val_main_v333, val_main_call1_v5, val_main_call1_v4, val_main_call1_cst_0, val_main_call1_v3, val_main_call1_v2, val_main_call1_cst,
    val_main_call1_v1, val_main_call1_v0, val_main_v332, val_main_v331, val_main_v330, val_main_v329, val_main_v328, val_main_v327, val_main_v326, val_main_v325, val_main_v324, val_main_v323, val_main_v322, val_main_v321, val_main_v320, val_main_v319, val_main_v318, val_main_v317, val_main_v316, val_main_v315, val_main_v314, val_main_v313, val_main_v312, val_main_v311, val_main_v310, val_main_v309, val_main_cst_17, val_main_cst_18, val_main_cst_19,
    val_main_cst_20, val_main_cst_21, conv_apply]
  simp only [Row.gate, Row.layer, Row.centred, Row.mean, Ideal.logistic]

theorem mixed_apply (b : Fin 32) (s : Fin 2048) (k : Fin 1024) :
    val_main_v334 (F := Ideal) x0 x1 x2 x3 x4 x5 x6 x7 x8 (ix3 b s k) = mixedRow x0 x1 x2 x3 x4 x5 x6 x7 x8 b s k := by
  pointwise [val_main_v334, gate_apply]
  unfold mixedRow Row.mixed Row.beside
  by_cases h0 : k.val < 128
  · rw [dif_pos (by omega), dif_pos h0, pooled_apply x0 x1 x2 x3 x4 b s 0 ⟨k.val, h0⟩ _ (show k.val = 0 * 128 + k.val by omega)]
    simp only [mean0_apply, Row.pooled]
  by_cases h1 : k.val - 128 < 128
  · rw [dif_pos (by omega), dif_neg h0, dif_pos h1, pooled_apply x0 x1 x2 x3 x4 b s 1 ⟨k.val - 128, h1⟩ _ (show k.val = 1 * 128 + (k.val - 128) by omega)]
    simp only [mean1_apply, Row.pooled]
  by_cases h2 : k.val - 128 - 128 < 128
  · rw [dif_pos (by omega), dif_neg h0, dif_neg h1, dif_pos h2,
      pooled_apply x0 x1 x2 x3 x4 b s 2 ⟨k.val - 128 - 128, h2⟩ _ (show k.val = 2 * 128 + (k.val - 128 - 128) by omega)]
    simp only [mean2_apply, Row.pooled]
  by_cases h3 : k.val - 128 - 128 - 128 < 128
  · rw [dif_pos (by omega), dif_neg h0, dif_neg h1, dif_neg h2, dif_pos h3,
      pooled_apply x0 x1 x2 x3 x4 b s 3 ⟨k.val - 128 - 128 - 128, h3⟩ _ (show k.val = 3 * 128 + (k.val - 128 - 128 - 128) by omega)]
    simp only [mean3_apply, Row.pooled]
  · rw [dif_neg (by omega), dif_neg h0, dif_neg h1, dif_neg h2, dif_neg h3]
    refine congrArg (Row.gate _ _ _) (Fin.ext (show k.val - 512 = k.val - 128 - 128 - 128 - 128 by omega))

/-- The reference's result is the mixer of every token. -/
theorem result_eq : val_main_v336 (F := Ideal) x0 x1 x2 x3 x4 x5 x6 x7 x8 x9 = tokens x0 x1 x2 x3 x4 x5 x6 x7 x8 x9 := by
  funext y
  idx_vars y
  pointwise [val_main_v336, val_main_v335, dot_S32x2048x1024_S1024x1024_S32x2048x1024_2_0_01_1_n_n, mixed_apply]
  rfl

end Cert.MixRefIdeal.Read

end
-- ==== Proof.MixClaim.lean ====
/-
  The pool and convolution mixer and its reference end with the same array, over the extended reals.
-/
module

public import proofs.«01_k».proof.Defs
public import proofs.«01_k».proof.Proof.MixArray
public import proofs.«01_k».proof.Proof.MixRead
public import proofs.«01_k».proof.Proof.Gen.MixRefIdeal.Run

@[expose] public section

noncomputable section

namespace Cert

open Idealize.ShloMosaic Idealize.ShloMosaic.TcCoe Idealize.SL.Sem

/-- The mixer computes its reference. -/
theorem mix_algebraic : algebraic_MixIdeal_MixRefIdeal := by
  intro m g m' g' _ hagree
  refine ⟨fun c => Mix.tokens _ _ _ _ _ _ _ _ _ _,
    (θ_run _ _ _).mono (fun r h c => ⟨(h c).1.trans (MixIdeal.Value.final m c), (h c).2⟩) (MixIdeal.Value.run_blocks m g),
    (θ_run _ _ _).mono (fun r h c => ⟨(h c).1.trans ?_, (h c).2⟩) (MixRefIdeal.Value.run m' g')⟩
  obtain ⟨a0, a1, a2, a3, a4, a5, a6, a7, a8, a9⟩ := hagree c
  have read (b : Ref MixRefIdeal.sig .tc) : StableHlo.launchContents m' c (Proc.devRef .tc b) = m' ((c.tc : Thread MixRefIdeal.nD MixRefIdeal.τ).loc b) := rfl
  refine (MixRefIdeal.Read.val_main_v336_eq (StableHlo.launchContents m' c)).trans ((MixRefIdeal.Read.result_eq _ _ _ _ _ _ _ _ _ _).trans ?_)
  rw [read, read, read, read, read, read, read, read, read, read, a0, a1, a2, a3, a4, a5, a6, a7, a8, a9]

end Cert

end
-- ==== Proof.FfnBlock.lean ====
/-
  What one grid point of the feed-forward call computes, read at an index: each of the block's 512 rows is
  the feed-forward block of `Proof/Row.lean` applied to that row.
-/
module

public import proofs.«01_k».proof.Proof.Row
public import proofs.«01_k».proof.Proof.Gen.FfnIdeal.Skeleton

@[expose] public section

noncomputable section

namespace Cert.FfnIdeal

open Idealize.ShloMosaic Cert.FfnIdeal.Gen

/-- The stored block at row `r`, feature `l`: the feed-forward block of row `r`. -/
theorem block_apply (v0 : FVec Ideal S512x1024 .f32) (v2 : FVec Ideal S1x1024 .f32) (v17 v20 : FVec Ideal S1024x2816 .bf16)
    (v27 : FVec Ideal S2816x1024 .bf16) (r : Fin 512) (l : Fin 1024) :
    k0_pay1 (F := Ideal) v0 v2 v17 v20 v27 (ix2 r l)
      = Row.ffn (fun k => v0 (ix2 r k)) (fun k => v2 (ix2 0 k)) (fun k f => v17 (ix2 k f)) (fun k f => v20 (ix2 k f))
          (fun f k => v27 (ix2 f k)) l := by
  pointwise [k0_pay1, dot_S512x1024_S1024x2816_S512x2816_1_0_0_1_n_n, dot_S512x2816_S2816x1024_S512x1024_1_0_0_1_n_n]
  simp only [Row.ffn, Row.times, Row.gated, Row.norm, Row.scale]

end Cert.FfnIdeal

end
-- ==== Proof.FfnArray.lean ====
/-
  What the feed-forward call leaves in its result array: row `2048 b + s` is the feed-forward block of
  token `(b, s)`'s row, over the arguments as launched.
-/
module

public import proofs.«01_k».proof.Proof.FfnBlock
public import proofs.«01_k».proof.Proof.Gen.FfnIdeal.Value
public import Idealize.ShloMosaic.Lib.Pipeline.ValueKit

@[expose] public section

noncomputable section

namespace Cert.FfnIdeal.Value

open Cert.FfnIdeal Cert.FfnIdeal.Gen Idealize.ShloMosaic Idealize.ShloMosaic.TcCoe Idealize.SL.Sem
open Idealize.ShloMosaic.Pipeline (Dat)

/-- The feed-forward block of every token, as one array of the arguments: row `i 0` is token
    `(i 0 / 2048, i 0 % 2048)`. -/
def tokens (x : FVec Ideal S32x2048x1024 .f32) (g : FVec Ideal S1024 .f32) (w₁ w₃ : FVec Ideal S1024x2816 .f32)
    (w₂ : FVec Ideal S2816x1024 .f32) : FVec Ideal S65536x1024 .f32 := fun i =>
  Row.ffn (fun k => x (ix3 ⟨(i 0).val / 2048, by have h : (i 0).val < 65536 := (i 0).isLt; omega⟩ ⟨(i 0).val % 2048, by omega⟩ k))
    (fun k => g (ix1 k)) (fun k f => w₁ (ix2 k f)) (fun k f => w₃ (ix2 k f)) (fun f k => w₂ (ix2 f k)) (i 1)

variable (m : (ℓ : Loc nD τ sig) → Buf (Elt Ideal) ℓ) (ρ : Dev nD → PrngReg)

/-- There are 128 grid points. -/
theorem lt_N (t : Fin cfg0.N) : t.val < 128 := t.isLt.trans_eq N_0

/-- Grid point `t`'s block of tokens is the `t`-th group of 512 rows. -/
theorem idx0 (t : Fin cfg0.N) : win0_0.index t = ![t.val, 0] :=
  (by decide +kernel : ∀ t : Fin grid0.N, win0_0.index t = ![t.val, 0]) t

/-- Grid point `t` writes the `t`-th group of 512 rows. -/
theorem idx6 (t : Fin cfg0.N) : win0_6.index t = ![t.val, 0] :=
  (by decide +kernel : ∀ t : Fin grid0.N, win0_6.index t = ![t.val, 0]) t

/-- The gain and the three weights are whole at every grid point. -/
theorem idx1 (t : Fin cfg0.N) : win0_1.index t = ![0, 0] ∧ win0_2.index t = ![0, 0] ∧ win0_3.index t = ![0, 0] ∧ win0_4.index t = ![0, 0] :=
  (by decide +kernel : ∀ t : Fin grid0.N, win0_1.index t = ![0, 0] ∧ win0_2.index t = ![0, 0] ∧ win0_3.index t = ![0, 0] ∧ win0_4.index t = ![0, 0]) t

/-- The tokens as the call finds them: row `r` is token `(r / 2048, r % 2048)`. -/
theorem entry0 (c : Dev nD) (r : Fin 65536) (k : Fin 1024) : V m c main_v0 (ix2 r k)
    = m ((c : Thread nD τ).loc main_arg0) (ix3 ⟨r.val / 2048, by omega⟩ ⟨r.val % 2048, by omega⟩ k) := by
  entry_read
  exact Row.flat_apply _ _ r k

/-- The gain as the call finds it. -/
theorem entry1 (c : Dev nD) (k : Fin 1024) : V m c main_v1 (ix2 0 k) = m ((c : Thread nD τ).loc main_arg1) (ix1 k) := by
  entry_read
  pointwise

/-- The weights as the call finds them: a change of format keeps an extended real. -/
theorem entry2 (c : Dev nD) : V m c main_v2 = m ((c : Thread nD τ).loc main_arg2) := by
  entry_read
  rfl

theorem entry3 (c : Dev nD) : V m c main_v3 = m ((c : Thread nD τ).loc main_arg3) := by
  entry_read
  rfl

theorem entry4 (c : Dev nD) : V m c main_v4 = m ((c : Thread nD τ).loc main_arg4) := by
  entry_read
  rfl

/-- The result array after the run is the feed-forward block of every token. -/
theorem final (c : Dev nD) : (dats m 0 c).arrAt 6 cfg0.N
    = tokens (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  obtain ⟨e1, e2, e3, e4⟩ := idx1 t
  have h6 : (win0_6.blk t).view.emb (ix2 y0 y1) = ix2 ⟨t.val * 512 + y0.val, by have := lt_N t; omega⟩ y1 := by
    blk_ext [idx6 t]
  rw [block_apply, h6]
  blk_simp [iblk]
  exact Row.ffn_congr
    (fun k => (congrArg (V m c main_v0) (show (win0_0.blk t).view.emb (ix2 y0 k) = ix2 ⟨t.val * 512 + y0.val, _⟩ k by
      blk_ext [idx0 t])).trans (entry0 m c _ k))
    (fun k => (congrArg (V m c main_v1) (show (win0_1.blk t).view.emb (ix2 0 k) = ix2 0 k by blk_ext [e1])).trans (entry1 m c k))
    (fun k f => (congrArg (V m c main_v2) (show (win0_2.blk t).view.emb (ix2 k f) = ix2 k f by blk_ext [e2])).trans
      (congrFun (entry2 m c) _))
    (fun k f => (congrArg (V m c main_v3) (show (win0_3.blk t).view.emb (ix2 k f) = ix2 k f by blk_ext [e3])).trans
      (congrFun (entry3 m c) _))
    (fun f k => (congrArg (V m c main_v4) (show (win0_4.blk t).view.emb (ix2 f k) = ix2 f k by blk_ext [e4])).trans
      (congrFun (entry4 m c) _)) y1

end Cert.FfnIdeal.Value

end
-- ==== Proof.FfnRead.lean ====
/-
  The feed-forward reference read at an index: at batch `b`, position `s`, feature `l` it is the feed-forward
  block of `Proof/Row.lean` applied to that token's row.
-/
module

public import proofs.«01_k».proof.Proof.Row
public import proofs.«01_k».proof.Proof.Gen.FfnRefIdeal.Read

@[expose] public section

noncomputable section

namespace Cert.FfnRefIdeal.Read

open Idealize.ShloMosaic Cert.FfnRefIdeal.Gen

/-- The result before its reshape, at token `(b, s)` and feature `l`. -/
theorem token_apply (x0 : FVec Ideal S32x2048x1024 .f32) (x1 : FVec Ideal S1024 .f32) (x2 x3 : FVec Ideal S1024x2816 .f32)
    (x4 : FVec Ideal S2816x1024 .f32) (b : Fin 32) (s : Fin 2048) (l : Fin 1024) :
    val_main_v20 (F := Ideal) x0 x1 x2 x3 x4 (ix3 b s l)
      = Row.ffn (fun k => x0 (ix3 b s k)) (fun k => x1 (ix1 k)) (fun k f => x2 (ix2 k f)) (fun k f => x3 (ix2 k f))
          (fun f k => x4 (ix2 f k)) l := by
  pointwise [val_main_v20, val_main_v19, val_main_v18, val_main_cst_2, val_main_v17, val_main_v16, val_main_v15, val_main_v14,
    val_main_call0_v5, val_main_call0_v4, val_main_call0_cst_0, val_main_call0_v3, val_main_call0_v2, val_main_call0_cst,
    val_main_call0_v1, val_main_call0_v0, val_main_v13, val_main_v12, val_main_v11, val_main_v10, val_main_v9, val_main_v8,
    val_main_v7, val_main_v6, val_main_v5, val_main_cst_1, val_main_v4, val_main_v3, val_main_cst_0, val_main_v2, val_main_v1,
    val_main_cst, val_main_v0, dot_S32x2048x1024_S1024x2816_S32x2048x2816_2_0_01_1_n_n,
    dot_S32x2048x2816_S2816x1024_S32x2048x1024_2_0_01_1_n_n]
  simp only [Row.ffn, Row.times, Row.gated, Row.norm, Row.scale, Ideal.logistic]

end Cert.FfnRefIdeal.Read

end
-- ==== Proof.FfnClaim.lean ====
/-
  The feed-forward call and its reference end with the same array, over the extended reals.
-/
module

public import proofs.«01_k».proof.Defs
public import proofs.«01_k».proof.Proof.FfnArray
public import proofs.«01_k».proof.Proof.FfnRead
public import proofs.«01_k».proof.Proof.Gen.FfnRefIdeal.Run

@[expose] public section

noncomputable section

namespace Cert

open Idealize.ShloMosaic Idealize.ShloMosaic.TcCoe Idealize.SL.Sem

/-- The reference's result is the feed-forward block of every token. -/
theorem FfnRefIdeal.Read.result_eq (x0 : FVec Ideal FfnRefIdeal.S32x2048x1024 .f32) (x1 : FVec Ideal FfnRefIdeal.S1024 .f32)
    (x2 x3 : FVec Ideal FfnRefIdeal.S1024x2816 .f32) (x4 : FVec Ideal FfnRefIdeal.S2816x1024 .f32) :
    FfnRefIdeal.Read.val_main_v21 (F := Ideal) x0 x1 x2 x3 x4 = FfnIdeal.Value.tokens x0 x1 x2 x3 x4 := by
  funext i
  idx_vars i
  exact (Row.flat_apply _ _ i0 i1).trans (FfnRefIdeal.Read.token_apply x0 x1 x2 x3 x4 _ _ i1)

/-- The feed-forward call computes its reference. -/
theorem ffn_algebraic : algebraic_FfnIdeal_FfnRefIdeal := by
  intro m g m' g' _ hagree
  refine ⟨fun c => FfnIdeal.Value.tokens _ _ _ _ _,
    (θ_run _ _ _).mono (fun r h c => ⟨(h c).1.trans (FfnIdeal.Value.final m c), (h c).2⟩) (FfnIdeal.Value.run_blocks m g),
    (θ_run _ _ _).mono (fun r h c => ⟨(h c).1.trans ?_, (h c).2⟩) (FfnRefIdeal.Value.run m' g')⟩
  obtain ⟨a0, a1, a2, a3, a4, -⟩ := hagree c
  rw [a0, a1, a2, a3, a4]
  exact (FfnRefIdeal.Read.val_main_v21_eq _ _ _ _ _).trans (FfnRefIdeal.Read.result_eq _ _ _ _ _)

end Cert

end
-- ==== Proof.FfnLastBlock.lean ====
/-
  What one grid point of the last feed-forward call computes, read at an index: the feed-forward block of each
  row (the value of `Proof/FfnBlock.lean`), normalised once more with the final gain.
-/
module

public import proofs.«01_k».proof.Proof.FfnBlock
public import proofs.«01_k».proof.Proof.Gen.FfnLastIdeal.Skeleton

@[expose] public section

noncomputable section

namespace Cert.FfnLastIdeal

open Idealize.ShloMosaic Cert.FfnLastIdeal.Gen

/-- Before the last normalisation the block is the plain feed-forward call's. -/
theorem inner_apply (v0 : FVec Ideal S512x1024 .f32) (v2 : FVec Ideal S1x1024 .f32) (v17 v20 : FVec Ideal S1024x2816 .bf16)
    (v27 : FVec Ideal S2816x1024 .bf16) (r : Fin 512) (l : Fin 1024) :
    k0_pay2 (F := Ideal) v0 v2 v17 v20 v27 (ix2 r l)
      = Row.ffn (fun k => v0 (ix2 r k)) (fun k => v2 (ix2 0 k)) (fun k f => v17 (ix2 k f)) (fun k f => v20 (ix2 k f))
          (fun f k => v27 (ix2 f k)) l :=
  FfnIdeal.block_apply v0 v2 v17 v20 v27 r l

/-- The stored block at row `r`, feature `l`: the normalised feed-forward block of row `r`. -/
theorem block_apply (v0 : FVec Ideal S512x1024 .f32) (v2 v33 : FVec Ideal S1x1024 .f32) (v17 v20 : FVec Ideal S1024x2816 .bf16)
    (v27 : FVec Ideal S2816x1024 .bf16) (r : Fin 512) (l : Fin 1024) :
    k0_pay1 (F := Ideal) (k0_pay2 v0 v2 v17 v20 v27) (k0_pay3 v33) (k0_pay4 v0 v2 v17 v20 v27) (Scalar.ofBits .f32 0x44800000#32) (ix2 r l)
      = Row.norm (Row.ffn (fun k => v0 (ix2 r k)) (fun k => v2 (ix2 0 k)) (fun k f => v17 (ix2 k f)) (fun k f => v20 (ix2 k f))
          (fun f k => v27 (ix2 f k))) (fun k => v33 (ix2 0 k)) l := by
  pointwise [k0_pay1, k0_pay3, k0_pay4, inner_apply]
  simp only [Row.norm, Row.scale]

end Cert.FfnLastIdeal

end
-- ==== Proof.FfnLastArray.lean ====
/-
  What the last feed-forward call leaves in its result array: row `2048 b + s` is the normalised feed-forward block of
  token `(b, s)`'s row, over the arguments as launched.
-/
module

public import proofs.«01_k».proof.Proof.FfnLastBlock
public import proofs.«01_k».proof.Proof.Gen.FfnLastIdeal.Value
public import Idealize.ShloMosaic.Lib.Pipeline.ValueKit

@[expose] public section

noncomputable section

namespace Cert.FfnLastIdeal.Value

open Cert.FfnLastIdeal Cert.FfnLastIdeal.Gen Idealize.ShloMosaic Idealize.ShloMosaic.TcCoe Idealize.SL.Sem
open Idealize.ShloMosaic.Pipeline (Dat)

/-- The normalised feed-forward block of every token, as one array of the arguments: row `i 0` is token
    `(i 0 / 2048, i 0 % 2048)`. -/
def tokens (x : FVec Ideal S32x2048x1024 .f32) (g : FVec Ideal S1024 .f32) (w₁ w₃ : FVec Ideal S1024x2816 .f32)
    (w₂ : FVec Ideal S2816x1024 .f32) (fg : FVec Ideal S1024 .f32) : FVec Ideal S65536x1024 .f32 := fun i =>
  Row.norm (Row.ffn (fun k => x (ix3 ⟨(i 0).val / 2048, by have h : (i 0).val < 65536 := (i 0).isLt; omega⟩ ⟨(i 0).val % 2048, by omega⟩ k))
    (fun k => g (ix1 k)) (fun k f => w₁ (ix2 k f)) (fun k f => w₃ (ix2 k f)) (fun f k => w₂ (ix2 f k))) (fun k => fg (ix1 k)) (i 1)

variable (m : (ℓ : Loc nD τ sig) → Buf (Elt Ideal) ℓ) (ρ : Dev nD → PrngReg)

/-- There are 128 grid points. -/
theorem lt_N (t : Fin cfg0.N) : t.val < 128 := t.isLt.trans_eq N_0

/-- Grid point `t`'s block of tokens is the `t`-th group of 512 rows. -/
theorem idx0 (t : Fin cfg0.N) : win0_0.index t = ![t.val, 0] :=
  (by decide +kernel : ∀ t : Fin grid0.N, win0_0.index t = ![t.val, 0]) t

/-- Grid point `t` writes the `t`-th group of 512 rows. -/
theorem idx6 (t : Fin cfg0.N) : win0_6.index t = ![t.val, 0] :=
  (by decide +kernel : ∀ t : Fin grid0.N, win0_6.index t = ![t.val, 0]) t

/-- The gains and the three weights are whole at every grid point. -/
theorem idx1 (t : Fin cfg0.N) : win0_1.index t = ![0, 0] ∧ win0_2.index t = ![0, 0] ∧ win0_3.index t = ![0, 0] ∧ win0_4.index t = ![0, 0] ∧ win0_5.index t = ![0, 0] :=
  (by decide +kernel : ∀ t : Fin grid0.N, win0_1.index t = ![0, 0] ∧ win0_2.index t = ![0, 0] ∧ win0_3.index t = ![0, 0] ∧ win0_4.index t = ![0, 0] ∧ win0_5.index t = ![0, 0]) t

/-- The tokens as the call finds them: row `r` is token `(r / 2048, r % 2048)`. -/
theorem entry0 (c : Dev nD) (r : Fin 65536) (k : Fin 1024) : V m c main_v0 (ix2 r k)
    = m ((c : Thread nD τ).loc main_arg0) (ix3 ⟨r.val / 2048, by omega⟩ ⟨r.val % 2048, by omega⟩ k) := by
  entry_read
  exact Row.flat_apply _ _ r k

/-- The gain as the call finds it. -/
theorem entry1 (c : Dev nD) (k : Fin 1024) : V m c main_v1 (ix2 0 k) = m ((c : Thread nD τ).loc main_arg1) (ix1 k) := by
  entry_read
  pointwise

/-- The final gain as the call finds it. -/
theorem entry5 (c : Dev nD) (k : Fin 1024) : V m c main_v5 (ix2 0 k) = m ((c : Thread nD τ).loc main_arg5) (ix1 k) := by
  entry_read
  pointwise

/-- The weights as the call finds them: a change of format keeps an extended real. -/
theorem entry2 (c : Dev nD) : V m c main_v2 = m ((c : Thread nD τ).loc main_arg2) := by
  entry_read
  rfl

theorem entry3 (c : Dev nD) : V m c main_v3 = m ((c : Thread nD τ).loc main_arg3) := by
  entry_read
  rfl

theorem entry4 (c : Dev nD) : V m c main_v4 = m ((c : Thread nD τ).loc main_arg4) := by
  entry_read
  rfl

/-- The result array after the run is the normalised feed-forward block of every token. -/
theorem final (c : Dev nD) : (dats m 0 c).arrAt 6 cfg0.N
    = tokens (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  idx_vars y
  obtain ⟨e1, e2, e3, e4, e5⟩ := idx1 t
  have h6 : (win0_6.blk t).view.emb (ix2 y0 y1) = ix2 ⟨t.val * 512 + y0.val, by have := lt_N t; omega⟩ y1 := by
    blk_ext [idx6 t]
  rw [block_apply, h6]
  blk_simp [iblk]
  refine Row.norm_congr (fun l => Row.ffn_congr
    (fun k => (congrArg (V m c main_v0) (show (win0_0.blk t).view.emb (ix2 y0 k) = ix2 ⟨t.val * 512 + y0.val, _⟩ k by
      blk_ext [idx0 t])).trans (entry0 m c _ k))
    (fun k => (congrArg (V m c main_v1) (show (win0_1.blk t).view.emb (ix2 0 k) = ix2 0 k by blk_ext [e1])).trans (entry1 m c k))
    (fun k f => (congrArg (V m c main_v2) (show (win0_2.blk t).view.emb (ix2 k f) = ix2 k f by blk_ext [e2])).trans
      (congrFun (entry2 m c) _))
    (fun k f => (congrArg (V m c main_v3) (show (win0_3.blk t).view.emb (ix2 k f) = ix2 k f by blk_ext [e3])).trans
      (congrFun (entry3 m c) _))
    (fun f k => (congrArg (V m c main_v4) (show (win0_4.blk t).view.emb (ix2 f k) = ix2 f k by blk_ext [e4])).trans
      (congrFun (entry4 m c) _)) l)
    (fun k => (congrArg (V m c main_v5) (show (win0_5.blk t).view.emb (ix2 0 k) = ix2 0 k by blk_ext [e5])).trans (entry5 m c k)) y1

end Cert.FfnLastIdeal.Value

end
-- ==== Proof.FfnLastRead.lean ====
/-
  The last feed-forward reference read at an index: the normalised feed-forward block of the token's row.
-/
module

public import proofs.«01_k».proof.Proof.FfnRead
public import proofs.«01_k».proof.Proof.Gen.FfnLastRefIdeal.Read

@[expose] public section

noncomputable section

namespace Cert.FfnLastRefIdeal.Read

open Idealize.ShloMosaic Cert.FfnLastRefIdeal.Gen

/-- Before the last normalisation the reference is the plain feed-forward reference. -/
theorem inner_apply (x0 : FVec Ideal S32x2048x1024 .f32) (x1 : FVec Ideal S1024 .f32) (x2 x3 : FVec Ideal S1024x2816 .f32)
    (x4 : FVec Ideal S2816x1024 .f32) (b : Fin 32) (s : Fin 2048) (l : Fin 1024) :
    val_main_v20 (F := Ideal) x0 x1 x2 x3 x4 (ix3 b s l)
      = Row.ffn (fun k => x0 (ix3 b s k)) (fun k => x1 (ix1 k)) (fun k f => x2 (ix2 k f)) (fun k f => x3 (ix2 k f))
          (fun f k => x4 (ix2 f k)) l :=
  FfnRefIdeal.Read.token_apply x0 x1 x2 x3 x4 b s l

/-- The result before its reshape, at token `(b, s)` and feature `l`. -/
theorem token_apply (x0 : FVec Ideal S32x2048x1024 .f32) (x1 x5 : FVec Ideal S1024 .f32) (x2 x3 : FVec Ideal S1024x2816 .f32)
    (x4 : FVec Ideal S2816x1024 .f32) (b : Fin 32) (s : Fin 2048) (l : Fin 1024) :
    val_main_v33 (F := Ideal) x0 x1 x2 x3 x4 x5 (ix3 b s l)
      = Row.norm (Row.ffn (fun k => x0 (ix3 b s k)) (fun k => x1 (ix1 k)) (fun k f => x2 (ix2 k f)) (fun k f => x3 (ix2 k f))
          (fun f k => x4 (ix2 f k))) (fun k => x5 (ix1 k)) l := by
  pointwise [val_main_v33, val_main_v32, val_main_v31, val_main_v30, val_main_v29, val_main_v28, val_main_v27, val_main_v26,
    val_main_cst_5, val_main_v25, val_main_v24, val_main_cst_4, val_main_v23, val_main_v22, val_main_cst_3, val_main_v21, inner_apply]
  simp only [Row.norm, Row.scale]

end Cert.FfnLastRefIdeal.Read

end
-- ==== Proof.FfnLastClaim.lean ====
/-
  The last feed-forward call and its reference end with the same array, over the extended reals.
-/
module

public import proofs.«01_k».proof.Defs
public import proofs.«01_k».proof.Proof.FfnLastArray
public import proofs.«01_k».proof.Proof.FfnLastRead
public import proofs.«01_k».proof.Proof.Gen.FfnLastRefIdeal.Run

@[expose] public section

noncomputable section

namespace Cert

open Idealize.ShloMosaic Idealize.ShloMosaic.TcCoe Idealize.SL.Sem

/-- The reference's result is the normalised feed-forward block of every token. -/
theorem FfnLastRefIdeal.Read.result_eq (x0 : FVec Ideal FfnLastRefIdeal.S32x2048x1024 .f32) (x1 x5 : FVec Ideal FfnLastRefIdeal.S1024 .f32)
    (x2 x3 : FVec Ideal FfnLastRefIdeal.S1024x2816 .f32) (x4 : FVec Ideal FfnLastRefIdeal.S2816x1024 .f32) :
    FfnLastRefIdeal.Read.val_main_v34 (F := Ideal) x0 x1 x2 x3 x4 x5 = FfnLastIdeal.Value.tokens x0 x1 x2 x3 x4 x5 := by
  funext i
  idx_vars i
  exact (Row.flat_apply _ _ i0 i1).trans (FfnLastRefIdeal.Read.token_apply x0 x1 x5 x2 x3 x4 _ _ i1)

/-- The last feed-forward call computes its reference. -/
theorem ffn_last_algebraic : algebraic_FfnLastIdeal_FfnLastRefIdeal := by
  intro m g m' g' _ hagree
  refine ⟨fun c => FfnLastIdeal.Value.tokens _ _ _ _ _ _,
    (θ_run _ _ _).mono (fun r h c => ⟨(h c).1.trans (FfnLastIdeal.Value.final m c), (h c).2⟩) (FfnLastIdeal.Value.run_blocks m g),
    (θ_run _ _ _).mono (fun r h c => ⟨(h c).1.trans ?_, (h c).2⟩) (FfnLastRefIdeal.Value.run m' g')⟩
  obtain ⟨a0, a1, a2, a3, a4, a5⟩ := hagree c
  rw [FfnLastRefIdeal.Read.val_main_v34_eq, a0, a1, a2, a3, a4, a5]
  exact FfnLastRefIdeal.Read.result_eq _ _ _ _ _ _

end Cert

end
-- ==== Proof.CinBlock.lean ====
/-
  What one grid point of the input projection computes, read at an index: inner products of the normalised rows
  with the columns of the weights, once row by row and once turned round.
-/
module

public import proofs.«01_k».proof.Proof.Row
public import proofs.«01_k».proof.Proof.Gen.CinIdeal.Value
public import Idealize.ShloMosaic.Lib.Pipeline.ValueKit

@[expose] public section

noncomputable section

namespace Cert.CinIdeal

open Idealize.ShloMosaic Cert.CinIdeal.Gen

/-- Row `r` of the block, normalised. -/
abbrev row (v0 : FVec Ideal S1x512x1024 .f32) (v2 : FVec Ideal S1x1024 .f32) (r : Fin 512) : Fin 1024 → EReal :=
  Row.norm (fun k => v0 (ix3 0 r k)) (fun k => v2 (ix2 0 k))

theorem normed_apply (v0 : FVec Ideal S1x512x1024 .f32) (v2 : FVec Ideal S1x1024 .f32) (r : Fin 512) (k : Fin 1024) :
    k0_pay2 (F := Ideal) v0 v2 (ix2 r k) = row v0 v2 r k := by
  pointwise [k0_pay2]
  simp only [Row.norm, Row.scale]

/-- Row `r` times column `j`. -/
theorem plain_apply (v0 : FVec Ideal S1x512x1024 .f32) (v2 : FVec Ideal S1x1024 .f32) (w : FVec Ideal S1024x1088 .bf16)
    (r : Fin 512) (j : Fin 1088) :
    k0_pay3 (F := Ideal) v0 v2 w (ix2 r j) = Row.times (row v0 v2 r) (fun k j => w (ix2 k j)) j := by
  pointwise [k0_pay3, dot_S512x1024_S1024x1088_S512x1088_1_0_0_1_n_n, normed_apply]
  simp only [Row.times]

/-- The turned product: row `f` of the turned weights times row `r` of the block. -/
theorem turned_apply (v0 : FVec Ideal S1x512x1024 .f32) (v2 : FVec Ideal S1x1024 .f32) (w : FVec Ideal S2560x1024 .bf16)
    (f : Fin 2560) (r : Fin 512) :
    k0_pay15 (F := Ideal) (k0_pay2 v0 v2) w (ix2 f r) = Row.times (row v0 v2 r) (fun k f => w (ix2 f k)) f := by
  pointwise [k0_pay15, dot_S2560x1024_S512x1024_S2560x512_1_1_0_0_n_n, normed_apply]
  simp only [Row.times, mul_comm]

/-- The turned product with the indexer's head weights. -/
theorem small_apply (v0 : FVec Ideal S1x512x1024 .f32) (v2 : FVec Ideal S1x1024 .f32) (w : FVec Ideal S8x1024 .bf16)
    (f : Fin 8) (r : Fin 512) :
    k0_pay20 (F := Ideal) (k0_pay2 v0 v2) w (ix2 f r) = Row.times (row v0 v2 r) (fun k f => w (ix2 f k)) f := by
  pointwise [k0_pay20, dot_S8x1024_S512x1024_S8x512_1_1_0_0_n_n, normed_apply]
  simp only [Row.times, mul_comm]

/-- A load of a whole block reads the block. -/
theorem loads (x0 : FVec Ideal S1x512x1024 .f32) (x1 : FVec Ideal S1x1024 .f32) (x2 : FVec Ideal S1024x1088 .bf16)
    (x3 : FVec Ideal S2560x1024 .bf16) (x4 : FVec Ideal S8x1024 .bf16) :
    View.ld (Val := Elt Ideal) (e' := .f32) x0 r0_0 = x0 ∧ View.ld (Val := Elt Ideal) (e' := .f32) x1 r0_1 = x1
      ∧ View.ld (Val := Elt Ideal) (e' := .bf16) x2 r0_2 = x2 ∧ View.ld (Val := Elt Ideal) (e' := .bf16) x3 r0_12 = x3
      ∧ View.ld (Val := Elt Ideal) (e' := .bf16) x4 r0_17 = x4 :=
  ⟨View.ld_unit_lit _ _ (by decide), View.ld_unit_lit _ _ (by decide), View.ld_unit_lit _ _ (by decide),
    View.ld_unit_lit _ _ (by decide), View.ld_unit_lit _ _ (by decide)⟩

section Stored

variable (x0 : FVec Ideal S1x512x1024 .f32) (x1 : FVec Ideal S1x1024 .f32) (x2 : FVec Ideal S1024x1088 .bf16)
    (x3 : FVec Ideal S2560x1024 .bf16) (x4 : FVec Ideal S8x1024 .bf16)

/-- The stored block of keys: head `h`, row `r`, coordinate `d`. -/
theorem keys_apply (h : Fin 8) (r : Fin 512) (d : Fin 128) : out0_5 (F := Ideal) x0 x1 x2 x3 x4 (ix4 0 h r d)
    = Row.times (row x0 x1 r) (fun k j => x2 (ix2 k j)) ⟨h.val * 128 + d.val, by omega⟩ := by
  obtain ⟨l0, l1, l2, -, -⟩ := loads x0 x1 x2 x3 x4
  unfold out0_5 k0_pay22
  rw [l0, l1, l2]
  refine (Value.canon5_eq (F := Ideal) x0 x1 x2 _).trans ((congrArg (k0_pay3 (F := Ideal) x0 x1 x2) ?_).trans (plain_apply x0 x1 x2 r _))
  exact funext fun a => match a with | ⟨0, _⟩ => rfl | ⟨1, _⟩ => rfl

/-- The stored block of indexer keys: row `r`, coordinate `d`. -/
theorem idxKeys_apply (r : Fin 512) (d : Fin 64) : out0_6 (F := Ideal) x0 x1 x2 x3 x4 (ix3 0 r d)
    = Row.times (row x0 x1 r) (fun k j => x2 (ix2 k j)) ⟨d.val + 1024, by omega⟩ := by
  obtain ⟨l0, l1, l2, -, -⟩ := loads x0 x1 x2 x3 x4
  unfold out0_6 k0_pay22
  rw [l0, l1, l2]
  refine (Value.canon6_eq (F := Ideal) x0 x1 x2 _).trans ((congrArg (k0_pay3 (F := Ideal) x0 x1 x2) ?_).trans (plain_apply x0 x1 x2 r _))
  exact funext fun a => match a with | ⟨0, _⟩ => rfl | ⟨1, _⟩ => rfl

/-- The stored block of queries: feature `f`, row `r`, scaled. -/
theorem queries_apply (f : Fin 1024) (r : Fin 512) : out0_7 (F := Ideal) x0 x1 x2 x3 x4 (ix3 0 f r)
    = Row.times (row x0 x1 r) (fun k f => x3 (ix2 f k)) ⟨f.val, by omega⟩ * Row.eighth := by
  obtain ⟨l0, l1, -, l3, -⟩ := loads x0 x1 x2 x3 x4
  unfold out0_7 k0_pay21
  rw [l0, l1, l3]
  refine (Value.canon7_eq (F := Ideal) x0 x1 x3 _).trans (congrArg (· * Row.eighth)
    ((congrArg (k0_pay15 (F := Ideal) (k0_pay2 x0 x1) x3) ?_).trans (turned_apply x0 x1 x3 _ r)))
  exact funext fun a => match a with | ⟨0, _⟩ => rfl | ⟨1, _⟩ => rfl

/-- The stored block of values: chunk `n`, feature `f`, row `e` of the chunk. -/
theorem values_apply (n : Fin 2) (f : Fin 1024) (e : Fin 256) : out0_8 (F := Ideal) x0 x1 x2 x3 x4 (ix4 0 n f e)
    = Row.times (row x0 x1 ⟨n.val * 256 + e.val, by omega⟩) (fun k f => x3 (ix2 f k)) ⟨f.val + 1024, by omega⟩ := by
  obtain ⟨l0, l1, -, l3, -⟩ := loads x0 x1 x2 x3 x4
  unfold out0_8 k0_pay21
  rw [l0, l1, l3]
  refine (Value.canon8_eq (F := Ideal) x0 x1 x3 _).trans
    ((congrArg (k0_pay15 (F := Ideal) (k0_pay2 x0 x1) x3) ?_).trans (turned_apply x0 x1 x3 _ _))
  exact funext fun a => match a with | ⟨0, _⟩ => rfl | ⟨1, _⟩ => rfl

/-- The stored block of indexer queries: feature `f`, row `r`. -/
theorem idxQueries_apply (f r : Fin 512) : out0_9 (F := Ideal) x0 x1 x2 x3 x4 (ix3 0 f r)
    = Row.times (row x0 x1 r) (fun k f => x3 (ix2 f k)) ⟨f.val + 2048, by omega⟩ := by
  obtain ⟨l0, l1, -, l3, -⟩ := loads x0 x1 x2 x3 x4
  unfold out0_9 k0_pay21
  rw [l0, l1, l3]
  refine (Value.canon9_eq (F := Ideal) x0 x1 x3 _).trans
    ((congrArg (k0_pay15 (F := Ideal) (k0_pay2 x0 x1) x3) ?_).trans (turned_apply x0 x1 x3 _ _))
  exact funext fun a => match a with | ⟨0, _⟩ => rfl | ⟨1, _⟩ => rfl

/-- The stored block of the indexer's head weights: head `f`, row `r`. -/
theorem headWeights_apply (f : Fin 8) (r : Fin 512) : out0_10 (F := Ideal) x0 x1 x2 x3 x4 (ix3 0 f r)
    = Row.times (row x0 x1 r) (fun k f => x4 (ix2 f k)) f := by
  obtain ⟨l0, l1, -, -, l4⟩ := loads x0 x1 x2 x3 x4
  unfold out0_10 k0_pay21
  rw [l0, l1, l4]
  refine (Value.canon10_eq (F := Ideal) x0 x1 x4 _).trans
    ((congrArg (k0_pay20 (F := Ideal) (k0_pay2 x0 x1) x4) ?_).trans (small_apply x0 x1 x4 f r))
  exact funext fun a => match a with | ⟨0, _⟩ => rfl | ⟨1, _⟩ => rfl

end Stored

end Cert.CinIdeal

end
-- ==== Proof.CinRead.lean ====
/-
  The reference of the input projection read at an index: every result is an inner product of a token's normalised
  row with a column of the weights.
-/
module

public import proofs.«01_k».proof.Proof.Row
public import proofs.«01_k».proof.Proof.Gen.CinRefIdeal.Read
public import Idealize.ShloMosaic.Lib.Pipeline.ValueKit

@[expose] public section

noncomputable section

namespace Cert.CinRefIdeal.Read

open Idealize.ShloMosaic Cert.CinRefIdeal.Gen

/-- Token `(b, s)`, normalised, times column `j` of the weights. -/
def project (x : FVec Ideal S32x2048x1024 .f32) (g : FVec Ideal S1024 .f32) (w : FVec Ideal S1024x3656 .f32)
    (b : Fin 32) (s : Fin 2048) (j : Fin 3656) : EReal :=
  Row.times (Row.norm (fun k => x (ix3 b s k)) (fun k => g (ix1 k))) (fun k j => w (ix2 k j)) j

/-- The keys: batch, head, token, coordinate. -/
def keys (x : FVec Ideal S32x2048x1024 .f32) (g : FVec Ideal S1024 .f32) (w : FVec Ideal S1024x3656 .f32) :
    FVec Ideal S32x8x2048x128 .bf16 := fun i =>
  project x g w (i 0) (i 2) ⟨1024 + ((i 1).val * 128 + (i 3).val), by
    have h1 : (i 1).val < 8 := (i 1).isLt; have h3 : (i 3).val < 128 := (i 3).isLt; omega⟩

/-- The indexer's keys: batch, token, coordinate. -/
def idxKeys (x : FVec Ideal S32x2048x1024 .f32) (g : FVec Ideal S1024 .f32) (w : FVec Ideal S1024x3656 .f32) :
    FVec Ideal S32x2048x64 .bf16 := fun i =>
  project x g w (i 0) (i 1) ⟨3584 + (i 2).val, by have h : (i 2).val < 64 := (i 2).isLt; omega⟩

/-- The queries, scaled: batch, feature, token. -/
def queries (x : FVec Ideal S32x2048x1024 .f32) (g : FVec Ideal S1024 .f32) (w : FVec Ideal S1024x3656 .f32) :
    FVec Ideal S32x1024x2048 .bf16 := fun i =>
  project x g w (i 0) (i 2) ⟨(i 1).val, by have h : (i 1).val < 1024 := (i 1).isLt; omega⟩ * Row.eighth

/-- The values: batch, chunk of 256 tokens, feature, token of the chunk. -/
def values (x : FVec Ideal S32x2048x1024 .f32) (g : FVec Ideal S1024 .f32) (w : FVec Ideal S1024x3656 .f32) :
    FVec Ideal S32x8x1024x256 .bf16 := fun i =>
  project x g w (i 0) ⟨(i 1).val * 256 + (i 3).val, by
      have h1 : (i 1).val < 8 := (i 1).isLt; have h3 : (i 3).val < 256 := (i 3).isLt; omega⟩
    ⟨2048 + (i 2).val, by have h : (i 2).val < 1024 := (i 2).isLt; omega⟩

/-- The indexer's queries: batch, feature, token. -/
def idxQueries (x : FVec Ideal S32x2048x1024 .f32) (g : FVec Ideal S1024 .f32) (w : FVec Ideal S1024x3656 .f32) :
    FVec Ideal S32x512x2048 .bf16 := fun i =>
  project x g w (i 0) (i 2) ⟨3072 + (i 1).val, by have h : (i 1).val < 512 := (i 1).isLt; omega⟩

/-- The indexer's head weights: batch, head, token. -/
def headWeights (x : FVec Ideal S32x2048x1024 .f32) (g : FVec Ideal S1024 .f32) (w : FVec Ideal S1024x3656 .f32) :
    FVec Ideal S32x8x2048 .f32 := fun i =>
  project x g w (i 0) (i 2) ⟨3648 + (i 1).val, by have h : (i 1).val < 8 := (i 1).isLt; omega⟩

variable (x0 : FVec Ideal S32x2048x1024 .f32) (x1 : FVec Ideal S1024 .f32) (x2 : FVec Ideal S1024x3656 .f32)

/-- The whole projection. -/
theorem project_apply (b : Fin 32) (s : Fin 2048) (j : Fin 3656) :
    val_main_v13 (F := Ideal) x0 x1 x2 (ix3 b s j) = project x0 x1 x2 b s j := by
  pointwise [val_main_v13, val_main_v12, val_main_v11, val_main_v10, val_main_v9, val_main_v8,
    val_main_v7, val_main_v6, val_main_v5, val_main_cst_1, val_main_v4, val_main_v3, val_main_cst_0, val_main_v2, val_main_v1,
    val_main_cst, val_main_v0, dot_S32x2048x1024_S1024x3656_S32x2048x3656_2_0_01_1_n_n]
  simp only [project, Row.times, Row.norm, Row.scale]

theorem keys_apply (b : Fin 32) (h : Fin 8) (s : Fin 2048) (d : Fin 128) :
    val_main_v24 (F := Ideal) x0 x1 x2 (ix4 b h s d) = project x0 x1 x2 b s ⟨1024 + (h.val * 128 + d.val), by omega⟩ := by
  pointwise [val_main_v24, val_main_v21, val_main_v20, val_main_v15, project_apply]

theorem idxKeys_apply (b : Fin 32) (s : Fin 2048) (d : Fin 64) :
    val_main_v25 (F := Ideal) x0 x1 x2 (ix3 b s d) = project x0 x1 x2 b s ⟨3584 + d.val, by omega⟩ := by
  pointwise [val_main_v25, val_main_v18, project_apply]

theorem queries_apply (b : Fin 32) (f : Fin 1024) (s : Fin 2048) :
    val_main_v29 (F := Ideal) x0 x1 x2 (ix3 b f s) = project x0 x1 x2 b s ⟨f.val, by omega⟩ * Row.eighth := by
  pointwise [val_main_v29, val_main_v28, val_main_v27, val_main_v26, val_main_cst_2, val_main_v14, project_apply]

theorem values_apply (b : Fin 32) (n : Fin 8) (f : Fin 1024) (e : Fin 256) :
    val_main_v30 (F := Ideal) x0 x1 x2 (ix4 b n f e)
      = project x0 x1 x2 b ⟨n.val * 256 + e.val, by omega⟩ ⟨2048 + f.val, by omega⟩ := by
  pointwise [val_main_v30, val_main_v23, val_main_v22, val_main_v16, project_apply]

theorem idxQueries_apply (b : Fin 32) (f : Fin 512) (s : Fin 2048) :
    val_main_v32 (F := Ideal) x0 x1 x2 (ix3 b f s) = project x0 x1 x2 b s ⟨3072 + f.val, by omega⟩ := by
  pointwise [val_main_v32, val_main_v31, val_main_v17, project_apply]

theorem headWeights_apply (b : Fin 32) (f : Fin 8) (s : Fin 2048) :
    val_main_v33 (F := Ideal) x0 x1 x2 (ix3 b f s) = project x0 x1 x2 b s ⟨3648 + f.val, by omega⟩ := by
  pointwise [val_main_v33, val_main_v19, project_apply]

theorem keys_eq : val_main_v24 (F := Ideal) x0 x1 x2 = keys x0 x1 x2 := by
  funext i
  idx_vars i
  exact keys_apply x0 x1 x2 i0 i1 i2 i3

theorem idxKeys_eq : val_main_v25 (F := Ideal) x0 x1 x2 = idxKeys x0 x1 x2 := by
  funext i
  idx_vars i
  exact idxKeys_apply x0 x1 x2 i0 i1 i2

theorem queries_eq : val_main_v29 (F := Ideal) x0 x1 x2 = queries x0 x1 x2 := by
  funext i
  idx_vars i
  exact queries_apply x0 x1 x2 i0 i1 i2

theorem values_eq : val_main_v30 (F := Ideal) x0 x1 x2 = values x0 x1 x2 := by
  funext i
  idx_vars i
  exact values_apply x0 x1 x2 i0 i1 i2 i3

theorem idxQueries_eq : val_main_v32 (F := Ideal) x0 x1 x2 = idxQueries x0 x1 x2 := by
  funext i
  idx_vars i
  exact idxQueries_apply x0 x1 x2 i0 i1 i2

theorem headWeights_eq : val_main_v33 (F := Ideal) x0 x1 x2 = headWeights x0 x1 x2 := by
  funext i
  idx_vars i
  exact headWeights_apply x0 x1 x2 i0 i1 i2

end Cert.CinRefIdeal.Read

end
-- ==== Proof.CinArray.lean ====
/-
  The six result arrays of the input projection after the run, as functions of the arguments.
-/
module

public import proofs.«01_k».proof.Proof.CinBlock
public import proofs.«01_k».proof.Proof.CinRead
public import proofs.«01_k».proof.Proof.Gen.CinIdeal.Value

@[expose] public section

noncomputable section

namespace Cert.CinIdeal.Value

open Idealize.ShloMosaic Idealize.ShloMosaic.TcCoe Idealize.SL.Sem Cert.CinIdeal.Gen

open Cert.CinRefIdeal.Read (project keys idxKeys queries values idxQueries headWeights)

variable (m : (ℓ : Loc nD τ sig) → Buf (Elt Ideal) ℓ) (ρ : Dev nD → PrngReg)

/-- There are 128 grid points. -/
theorem lt_N (t : Fin cfg0.N) : t.val < 128 := t.isLt.trans_eq N_0

/-- Grid point `t` is batch `t / 4`, stretch `t % 4` of 512 tokens. -/
theorem idx0 (t : Fin cfg0.N) : win0_0.index t = ![t.val / 4, t.val % 4, 0] :=
  (by decide +kernel : ∀ t : Fin grid0.N, win0_0.index t = ![t.val / 4, t.val % 4, 0]) t

/-- The gain and the weights are whole at every grid point. -/
theorem idx1 (t : Fin cfg0.N) : win0_1.index t = ![0, 0] ∧ win0_2.index t = ![0, 0] ∧ win0_3.index t = ![0, 0] ∧ win0_4.index t = ![0, 0] :=
  (by decide +kernel : ∀ t : Fin grid0.N, win0_1.index t = ![0, 0] ∧ win0_2.index t = ![0, 0] ∧ win0_3.index t = ![0, 0] ∧ win0_4.index t = ![0, 0]) t

/-- Where each result's block of grid point `t` lies. -/
theorem idx5 (t : Fin cfg0.N) : win0_5.index t = ![t.val / 4, 0, t.val % 4, 0] ∧ win0_6.index t = ![t.val / 4, t.val % 4, 0]
    ∧ win0_7.index t = ![t.val / 4, 0, t.val % 4] ∧ win0_8.index t = ![t.val / 4, t.val % 4, 0, 0]
    ∧ win0_9.index t = ![t.val / 4, 0, t.val % 4] ∧ win0_10.index t = ![t.val / 4, 0, t.val % 4] :=
  (by decide +kernel : ∀ t : Fin grid0.N, win0_5.index t = ![t.val / 4, 0, t.val % 4, 0] ∧ win0_6.index t = ![t.val / 4, t.val % 4, 0]
    ∧ win0_7.index t = ![t.val / 4, 0, t.val % 4] ∧ win0_8.index t = ![t.val / 4, t.val % 4, 0, 0]
    ∧ win0_9.index t = ![t.val / 4, 0, t.val % 4] ∧ win0_10.index t = ![t.val / 4, 0, t.val % 4]) t

/-- The gain as the call finds it. -/
theorem entry1 (c : Dev nD) (k : Fin 1024) : V m c main_v11 (ix2 0 k) = m ((c : Thread nD τ).loc main_arg1) (ix1 k) := by
  entry_read
  pointwise

/-- The weights of keys and indexer keys, side by side. -/
theorem entry2 (c : Dev nD) (k : Fin 1024) (j : Fin 1088) : V m c main_v7 (ix2 k j)
    = m ((c : Thread nD τ).loc main_arg2) (ix2 k ⟨if j.val < 1024 then 1024 + j.val else 2560 + j.val, by split <;> omega⟩) := by
  entry_read
  pointwise
  split
  · rfl
  · refine congrArg (m ((c : Thread nD τ).loc main_arg2)) (congrArg (ix2 k) (Fin.ext ?_))
    show 3584 + (j.val - 1024) = 2560 + j.val
    omega

/-- Three matrices side by side, turned: row `f` is the column it was. -/
theorem stack_apply (a b : FVec Ideal S1024x1024 .f32) (d : FVec Ideal S1024x512 .f32) (f : Fin 2560) (k : Fin 1024) :
    truncf .bf16 (transpose S2560x1024 [1, 0] (concatenate S1024x2560 1 [⟨S1024x1024, a⟩, ⟨S1024x1024, b⟩, ⟨S1024x512, d⟩]
        concatenates_S1024x1024_S1024x1024_S1024x512_S1024x2560_d1) transposes_S1024x2560_S2560x1024_1_0) bitsLt_bf16_f32 (ix2 f k)
      = if h : f.val < 1024 then a (ix2 k ⟨f.val, h⟩)
        else if h' : f.val - 1024 < 1024 then b (ix2 k ⟨f.val - 1024, h'⟩) else d (ix2 k ⟨f.val - 1024 - 1024, by omega⟩) := by
  pointwise

open StableHlo in
/-- The weights of queries, values and indexer queries, turned and stacked. -/
theorem entry3 (c : Dev nD) (f : Fin 2560) (k : Fin 1024) : V m c main_v10 (ix2 f k)
    = m ((c : Thread nD τ).loc main_arg2) (ix2 k ⟨if f.val < 1024 then f.val else 1024 + f.val, by split <;> omega⟩) := by
  simp only [V, hostOps0, after_cons, after_nil]
  rw [unary_result_ne' _ _ _ _ (by decide), unary_result_ne' _ _ _ _ (by decide), reshape_result_ne' _ _ _ _ _ (by decide),
    unary_result', unary_result']
  generalize hσ : HloOp.result (unary (τ := τ) main_v6 main_v7 _ _ _) _ = σ
  rw [nary_result']
  refine (stack_apply (σ (Proc.devRef .tc main_v0)) (σ (Proc.devRef .tc main_v2)) (σ (Proc.devRef .tc main_v3)) f k).trans ?_
  by_cases h : f.val < 1024
  · rw [dif_pos h]
    subst hσ
    after_results_simp
    pointwise
    simp only [if_pos h]
  · rw [dif_neg h]
    by_cases h' : f.val - 1024 < 1024
    · rw [dif_pos h']
      subst hσ
      after_results_simp
      pointwise
      simp only [if_neg h]
      refine congrArg (m ((c : Thread nD τ).loc main_arg2)) (congrArg (ix2 k) (Fin.ext ?_))
      show 2048 + (f.val - 1024) = 1024 + f.val
      omega
    · rw [dif_neg h']
      subst hσ
      after_results_simp
      pointwise
      simp only [if_neg h]
      refine congrArg (m ((c : Thread nD τ).loc main_arg2)) (congrArg (ix2 k) (Fin.ext ?_))
      show 3072 + (f.val - 1024 - 1024) = 1024 + f.val
      omega
/-- The indexer's head weights, turned. -/
theorem entry4 (c : Dev nD) (f : Fin 8) (k : Fin 1024) : V m c main_v13 (ix2 f k)
    = m ((c : Thread nD τ).loc main_arg2) (ix2 k ⟨3648 + f.val, by omega⟩) := by
  entry_read
  pointwise

section Blocks

variable (c : Dev nD) (t : Fin cfg0.N)

/-- Row `r` of grid point `t`'s block, normalised, is a token's row, normalised. -/
theorem row_apply (r : Fin 512) (k : Fin 1024) : row (iblk m c 0 t) (iblk m c 1 t) r k
    = Row.norm (fun k => m ((c : Thread nD τ).loc main_arg0) (ix3 ⟨t.val / 4, by have := lt_N t; omega⟩ ⟨t.val % 4 * 512 + r.val, by omega⟩ k))
        (fun k => m ((c : Thread nD τ).loc main_arg1) (ix1 k)) k := by
  obtain ⟨e1, -, -, -⟩ := idx1 t
  have h0 (k) : (win0_0.blk t).view.emb (ix3 0 r k) = ix3 ⟨t.val / 4, by have := lt_N t; omega⟩ ⟨t.val % 4 * 512 + r.val, by omega⟩ k := by
    blk_ext [idx0 t]
  have h1 (k) : (win0_1.blk t).view.emb (ix2 0 k) = ix2 0 k := by blk_ext [e1]
  refine Row.norm_congr (fun k => ?_) (fun k => ?_) k
  · blk_simp [iblk]
    exact (congrArg (V m c main_arg0) (h0 k)).trans (congrFun (V_main_arg0 m c) _)
  · blk_simp [iblk]
    exact (congrArg (V m c main_v11) (h1 k)).trans (entry1 m c k)

/-- Column `j` of the side-by-side weights, at any grid point. -/
theorem side_apply (k : Fin 1024) (j : Fin 1088) : iblk m c 2 t (ix2 k j)
    = m ((c : Thread nD τ).loc main_arg2) (ix2 k ⟨if j.val < 1024 then 1024 + j.val else 2560 + j.val, by split <;> omega⟩) := by
  obtain ⟨-, e2, -, -⟩ := idx1 t
  have h2 : (win0_2.blk t).view.emb (ix2 k j) = ix2 k j := by blk_ext [e2]
  blk_simp [iblk]
  exact (congrArg (V m c main_v7) h2).trans (entry2 m c k j)

/-- Row `f` of the turned weights, at any grid point. -/
theorem turn_apply (f : Fin 2560) (k : Fin 1024) : iblk m c 3 t (ix2 f k)
    = m ((c : Thread nD τ).loc main_arg2) (ix2 k ⟨if f.val < 1024 then f.val else 1024 + f.val, by split <;> omega⟩) := by
  obtain ⟨-, -, e3, -⟩ := idx1 t
  have h3 : (win0_3.blk t).view.emb (ix2 f k) = ix2 f k := by blk_ext [e3]
  blk_simp [iblk]
  exact (congrArg (V m c main_v10) h3).trans (entry3 m c f k)

/-- Row `f` of the turned head weights, at any grid point. -/
theorem head_apply (f : Fin 8) (k : Fin 1024) : iblk m c 4 t (ix2 f k)
    = m ((c : Thread nD τ).loc main_arg2) (ix2 k ⟨3648 + f.val, by omega⟩) := by
  obtain ⟨-, -, -, e4⟩ := idx1 t
  have h4 : (win0_4.blk t).view.emb (ix2 f k) = ix2 f k := by blk_ext [e4]
  blk_simp [iblk]
  exact (congrArg (V m c main_v13) h4).trans (entry4 m c f k)

/-- A row of the block times a column of the side-by-side weights is a token times a column of the weights. -/
theorem side_product (r : Fin 512) (j : Fin 1088) (j' : Fin 3656) (h : (if j.val < 1024 then 1024 + j.val else 2560 + j.val) = j'.val) :
    Row.times (row (iblk m c 0 t) (iblk m c 1 t) r) (fun k j => iblk m c 2 t (ix2 k j)) j
      = project (m ((c : Thread nD τ).loc main_arg0)) (m ((c : Thread nD τ).loc main_arg1)) (m ((c : Thread nD τ).loc main_arg2))
          ⟨t.val / 4, by have := lt_N t; omega⟩ ⟨t.val % 4 * 512 + r.val, by omega⟩ j' := by
  unfold project
  refine Row.times_congr (row_apply m c t r) fun k => ?_
  exact (side_apply m c t k j).trans (congrArg (m ((c : Thread nD τ).loc main_arg2)) (congrArg (ix2 k) (Fin.ext h)))

/-- The same for a row of the turned weights. -/
theorem turn_product (r : Fin 512) (f : Fin 2560) (j' : Fin 3656) (h : (if f.val < 1024 then f.val else 1024 + f.val) = j'.val) :
    Row.times (row (iblk m c 0 t) (iblk m c 1 t) r) (fun k f => iblk m c 3 t (ix2 f k)) f
      = project (m ((c : Thread nD τ).loc main_arg0)) (m ((c : Thread nD τ).loc main_arg1)) (m ((c : Thread nD τ).loc main_arg2))
          ⟨t.val / 4, by have := lt_N t; omega⟩ ⟨t.val % 4 * 512 + r.val, by omega⟩ j' := by
  unfold project
  refine Row.times_congr (row_apply m c t r) fun k => ?_
  exact (turn_apply m c t f k).trans (congrArg (m ((c : Thread nD τ).loc main_arg2)) (congrArg (ix2 k) (Fin.ext h)))

/-- The same for a row of the turned head weights. -/
theorem head_product (r : Fin 512) (f : Fin 8) :
    Row.times (row (iblk m c 0 t) (iblk m c 1 t) r) (fun k f => iblk m c 4 t (ix2 f k)) f
      = project (m ((c : Thread nD τ).loc main_arg0)) (m ((c : Thread nD τ).loc main_arg1)) (m ((c : Thread nD τ).loc main_arg2))
          ⟨t.val / 4, by have := lt_N t; omega⟩ ⟨t.val % 4 * 512 + r.val, by omega⟩ ⟨3648 + f.val, by omega⟩ := by
  unfold project
  exact Row.times_congr (row_apply m c t r) fun k => head_apply m c t f k

end Blocks

/-- The keys after the run. -/
theorem final5 (c : Dev nD) : (dats m 0 c).arrAt 5 cfg0.N
    = keys (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  idx_vars y
  obtain rfl : y0 = 0 := Subsingleton.elim _ _
  obtain ⟨e, -, -, -, -, -⟩ := idx5 t
  have h : (win0_5.blk t).view.emb (ix4 0 y1 y2 y3)
      = ix4 ⟨t.val / 4, by have := lt_N t; omega⟩ y1 ⟨t.val % 4 * 512 + y2.val, by omega⟩ y3 := by blk_ext [e]
  rw [keys_apply, h]
  exact side_product m c t y2 _ _ (if_pos (by show y1.val * 128 + y3.val < 1024; omega))

/-- The indexer's keys after the run. -/
theorem final6 (c : Dev nD) : (dats m 0 c).arrAt 6 cfg0.N
    = idxKeys (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_vars y
  obtain rfl : y0 = 0 := Subsingleton.elim _ _
  obtain ⟨-, e, -, -, -, -⟩ := idx5 t
  have h : (win0_6.blk t).view.emb (ix3 0 y1 y2)
      = ix3 ⟨t.val / 4, by have := lt_N t; omega⟩ ⟨t.val % 4 * 512 + y1.val, by omega⟩ y2 := by blk_ext [e]
  rw [idxKeys_apply, h]
  exact side_product m c t y1 _ _ ((if_neg (by show ¬ y2.val + 1024 < 1024; omega)).trans
    (by show 2560 + (y2.val + 1024) = 3584 + y2.val; omega))

/-- The queries after the run. -/
theorem final7 (c : Dev nD) : (dats m 0 c).arrAt 7 cfg0.N
    = queries (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  idx_vars y
  obtain rfl : y0 = 0 := Subsingleton.elim _ _
  obtain ⟨-, -, e, -, -, -⟩ := idx5 t
  have h : (win0_7.blk t).view.emb (ix3 0 y1 y2)
      = ix3 ⟨t.val / 4, by have := lt_N t; omega⟩ y1 ⟨t.val % 4 * 512 + y2.val, by omega⟩ := by blk_ext [e]
  rw [queries_apply, h]
  exact congrArg (· * Row.eighth) (turn_product m c t y2 _ _ (if_pos y1.isLt))

/-- The values after the run. -/
theorem final8 (c : Dev nD) : (dats m 0 c).arrAt 8 cfg0.N
    = values (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  idx_vars y
  obtain rfl : y0 = 0 := Subsingleton.elim _ _
  obtain ⟨-, -, -, e, -, -⟩ := idx5 t
  have h : (win0_8.blk t).view.emb (ix4 0 y1 y2 y3)
      = ix4 ⟨t.val / 4, by have := lt_N t; omega⟩ ⟨t.val % 4 * 2 + y1.val, by omega⟩ y2 y3 := by blk_ext [e]
  rw [values_apply, h]
  refine (turn_product m c t _ _ ⟨2048 + y2.val, by omega⟩ ((if_neg (by show ¬ y2.val + 1024 < 1024; omega)).trans
    (by show 1024 + (y2.val + 1024) = 2048 + y2.val; omega))).trans (congrArg (project _ _ _ _ · _) (Fin.ext ?_))
  show t.val % 4 * 512 + (y1.val * 256 + y3.val) = (t.val % 4 * 2 + y1.val) * 256 + y3.val
  omega

/-- The indexer's queries after the run. -/
theorem final9 (c : Dev nD) : (dats m 0 c).arrAt 9 cfg0.N
    = idxQueries (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  idx_vars y
  obtain rfl : y0 = 0 := Subsingleton.elim _ _
  obtain ⟨-, -, -, -, e, -⟩ := idx5 t
  have h : (win0_9.blk t).view.emb (ix3 0 y1 y2)
      = ix3 ⟨t.val / 4, by have := lt_N t; omega⟩ y1 ⟨t.val % 4 * 512 + y2.val, by omega⟩ := by blk_ext [e]
  rw [idxQueries_apply, h]
  exact turn_product m c t y2 _ _ ((if_neg (by show ¬ y1.val + 2048 < 1024; omega)).trans
    (by show 1024 + (y1.val + 2048) = 3072 + y1.val; omega))

/-- The indexer's head weights after the run. -/
theorem final10 (c : Dev nD) : (dats m 0 c).arrAt 10 cfg0.N
    = headWeights (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  idx_vars y
  obtain rfl : y0 = 0 := Subsingleton.elim _ _
  obtain ⟨-, -, -, -, -, e⟩ := idx5 t
  have h : (win0_10.blk t).view.emb (ix3 0 y1 y2)
      = ix3 ⟨t.val / 4, by have := lt_N t; omega⟩ y1 ⟨t.val % 4 * 512 + y2.val, by omega⟩ := by blk_ext [e]
  rw [headWeights_apply, h]
  exact head_product m c t y2 y1

end Cert.CinIdeal.Value

end
-- ==== Proof.CinClaim.lean ====
/-
  The input projection and its reference end with the same six arrays, over the extended reals.
-/
module

public import proofs.«01_k».proof.Defs
public import proofs.«01_k».proof.Proof.CinArray
public import proofs.«01_k».proof.Proof.Gen.CinRefIdeal.Run

@[expose] public section

noncomputable section

namespace Cert

open Idealize.ShloMosaic Idealize.ShloMosaic.TcCoe Idealize.SL.Sem

open Cert.CinRefIdeal.Read (keys idxKeys queries values idxQueries headWeights)

/-- The input projection computes its reference. -/
theorem cin_algebraic : algebraic_CinIdeal_CinRefIdeal := by
  intro m g m' g' _ hagree
  let args (c : Dev CinIdeal.nD) := (m ((c : Thread CinIdeal.nD CinIdeal.τ).loc CinIdeal.main_arg0),
    m ((c : Thread CinIdeal.nD CinIdeal.τ).loc CinIdeal.main_arg1), m ((c : Thread CinIdeal.nD CinIdeal.τ).loc CinIdeal.main_arg2))
  refine ⟨fun c => keys (args c).1 (args c).2.1 (args c).2.2, fun c => idxKeys (args c).1 (args c).2.1 (args c).2.2,
    fun c => queries (args c).1 (args c).2.1 (args c).2.2, fun c => values (args c).1 (args c).2.1 (args c).2.2,
    fun c => idxQueries (args c).1 (args c).2.1 (args c).2.2, fun c => headWeights (args c).1 (args c).2.1 (args c).2.2,
    (θ_run _ _ _).mono (fun r h c => ?_) (CinIdeal.Value.run_blocks m g),
    (θ_run _ _ _).mono (fun r h c => ?_) (CinRefIdeal.Value.run m' g')⟩
  · obtain ⟨r0, r1, r2, r3, r4, r5, kept⟩ := h c
    exact ⟨r0.trans (CinIdeal.Value.final5 m c), r1.trans (CinIdeal.Value.final6 m c), r2.trans (CinIdeal.Value.final7 m c),
      r3.trans (CinIdeal.Value.final8 m c), r4.trans (CinIdeal.Value.final9 m c), r5.trans (CinIdeal.Value.final10 m c), kept⟩
  · obtain ⟨r0, r1, r2, r3, r4, r5, kept⟩ := h c
    obtain ⟨a0, a1, a2⟩ := hagree c
    rw [a0, a1, a2] at r0 r1 r2 r3 r4 r5
    exact ⟨(r0.trans (CinRefIdeal.Read.val_main_v24_eq _ _ _)).trans (CinRefIdeal.Read.keys_eq _ _ _),
      (r1.trans (CinRefIdeal.Read.val_main_v25_eq _ _ _)).trans (CinRefIdeal.Read.idxKeys_eq _ _ _),
      (r2.trans (CinRefIdeal.Read.val_main_v29_eq _ _ _)).trans (CinRefIdeal.Read.queries_eq _ _ _),
      (r3.trans (CinRefIdeal.Read.val_main_v30_eq _ _ _)).trans (CinRefIdeal.Read.values_eq _ _ _),
      (r4.trans (CinRefIdeal.Read.val_main_v32_eq _ _ _)).trans (CinRefIdeal.Read.idxQueries_eq _ _ _),
      (r5.trans (CinRefIdeal.Read.val_main_v33_eq _ _ _)).trans (CinRefIdeal.Read.headWeights_eq _ _ _), kept⟩

end Cert

end
-- ==== Proof.BiasRow.lean ====
/-
  The relative-position bias: which bucket a distance falls in, and the tiles that look the table up by it.
-/
module

public import proofs.«01_k».proof.Proof.Row

@[expose] public section

noncomputable section

namespace Cert.Bias

open Idealize.ShloMosaic

/-- How far key `k` lies behind query `q` of the `dl`-th block after the key's own, at least zero. -/
def distance (dl k q : ℕ) : BitVec 32 :=
  IntOp.maxsi (IntOp.subi (IntOp.addi (IntOp.muli 256#32 (BitVec.ofNat 32 dl)) (BitVec.ofNat 32 q)) (BitVec.ofNat 32 k)) 0#32

/-- A distance over 16. -/
def sixteenths (d : BitVec 32) : EReal :=
  Ideal.div ((((IntOp.maxsi d 16#32).toInt : ℝ) : EReal)) (Ideal.ofBits .f32 0x41800000#32)

/-- The number of logarithmic steps a distance lies past 16: its logarithm over 16, in sixteenths of that of 8. -/
def steps (d : BitVec 32) : BitVec 32 :=
  Ideal.fptosi 32 (Ideal.div (Ideal.log (sixteenths d)) (Ideal.ofBits .f32 0x40051592#32) * Ideal.ofBits .f32 0x41800000#32)

/-- The bucket of a distance: itself below 16, then one of 16 logarithmic ones. -/
def bucket (d : BitVec 32) : BitVec 32 :=
  Scalar.select (IntOp.cmpi .slt d 16#32) d (IntOp.minsi (IntOp.addi 16#32 (steps d)) 31#32)

theorem lit16 : Ideal.ofBits .f32 0x41800000#32 = ((16 : ℝ) : EReal) := by
  simp [Ideal.ofBits, Ideal.ieee, -EReal.coe_mul]
  norm_num

theorem litLog : Ideal.ofBits .f32 0x40051592#32 = ((8721810 / 4194304 : ℝ) : EReal) := by
  simp [Ideal.ofBits, Ideal.ieee, -EReal.coe_mul]
  norm_num

theorem maxsi_toInt (x y : BitVec 32) : (IntOp.maxsi x y).toInt = max x.toInt y.toInt := by
  unfold IntOp.maxsi
  split <;> rename_i h <;> rw [BitVec.slt_iff_toInt_lt] at h <;> omega

theorem minsi_toInt (x y : BitVec 32) : (IntOp.minsi x y).toInt = min x.toInt y.toInt := by
  unfold IntOp.minsi
  split <;> rename_i h <;> rw [BitVec.slt_iff_toInt_lt] at h <;> omega

/-- A distance is not negative. -/
theorem distance_nonneg (dl k q : ℕ) : 0 ≤ (distance dl k q).toInt := by
  rw [distance, maxsi_toInt]
  exact le_max_right _ _

/-- The steps lie between 0 and 2³⁰. -/
theorem steps_range (d : BitVec 32) : 0 ≤ (steps d).toInt ∧ (steps d).toInt ≤ 2 ^ 30 := by
  have hd := maxsi_toInt d 16#32
  have h16 : (16#32 : BitVec 32).toInt = 16 := by decide
  have hlt := (BitVec.toInt_lt (x := d))
  generalize hn : (IntOp.maxsi d 16#32).toInt = n at hd
  have n0 : 16 ≤ n := by omega
  have n1 : n < 2 ^ 31 := by omega
  have r0 : (16 : ℝ) ≤ (n : ℝ) := by exact_mod_cast n0
  have r1 : (n : ℝ) < 2 ^ 31 := by exact_mod_cast n1
  have hs : sixteenths d = (((n : ℝ) / 16 : ℝ) : EReal) := by
    rw [sixteenths, hn, lit16, Ideal.div_coe (by norm_num), ← EReal.coe_mul]
    congr 1
    ring
  have hl : Ideal.log (sixteenths d) = ((Real.log ((n : ℝ) / 16) : ℝ) : EReal) := by
    rw [hs]
    show (if (n : ℝ) / 16 ≤ 0 then (⊥ : EReal) else _) = _
    rw [if_neg (by linarith)]
  have l0 : 0 ≤ Real.log ((n : ℝ) / 16) := Real.log_nonneg (by linarith)
  have l1 : Real.log ((n : ℝ) / 16) ≤ (n : ℝ) / 16 := (Real.log_le_sub_one_of_pos (by linarith)).trans (by linarith)
  have hv : Ideal.div (Ideal.log (sixteenths d)) (Ideal.ofBits .f32 0x40051592#32) * Ideal.ofBits .f32 0x41800000#32
      = ((Real.log ((n : ℝ) / 16) * (1 / (8721810 / 4194304)) * 16 : ℝ) : EReal) := by
    rw [hl, litLog, lit16, Ideal.div_coe (by norm_num), ← EReal.coe_mul, ← EReal.coe_mul]
  generalize hx : Real.log ((n : ℝ) / 16) * (1 / (8721810 / 4194304)) * 16 = x at hv
  have x0 : 0 ≤ x := by rw [← hx]; positivity
  have x1 : x ≤ 2 ^ 30 := by rw [← hx]; nlinarith
  have f0 : 0 ≤ ⌊x⌋ := Int.floor_nonneg.mpr x0
  have f1 : ⌊x⌋ ≤ 2 ^ 30 := by exact_mod_cast (Int.floor_le x).trans x1
  have e : (steps d).toInt = ⌊x⌋ := by
    rw [steps, hv, Ideal.fptosi, Ideal.toIntClamped_coe, if_pos x0, BitVec.toInt_ofInt]
    norm_num
    rw [min_eq_right (by omega), max_eq_right (by omega), Int.bmod_eq_of_le (by omega) (by omega)]
  omega

/-- A distance's bucket is one of the 32. -/
theorem bucket_range (d : BitVec 32) (h : 0 ≤ d.toInt) : 0 ≤ (bucket d).toInt ∧ (bucket d).toInt < 32 := by
  obtain ⟨s0, s1⟩ := steps_range d
  have h16 : (16#32 : BitVec 32).toInt = 16 := by decide
  have h31 : (31#32 : BitVec 32).toInt = 31 := by decide
  have hadd : (IntOp.addi 16#32 (steps d)).toInt = 16 + (steps d).toInt := by
    rw [IntOp.addi, BitVec.toInt_add, h16, Int.bmod_eq_of_le (by omega) (by omega)]
  unfold bucket Scalar.select
  split <;> rename_i hc
  · have : d.slt 16#32 = true := by
      change BitVec.ofBool (d.slt 16#32) = 1 at hc
      cases hb : d.slt 16#32
      · rw [hb] at hc
        exact absurd hc (by decide)
      · rfl
    rw [BitVec.slt_iff_toInt_lt] at this
    omega
  · rw [minsi_toInt, hadd]
    omega

/-- The bucket as a row of the table. -/
def row (dl k q : ℕ) : Fin 32 :=
  ⟨(bucket (distance dl k q)).toInt.toNat, by have := bucket_range _ (distance_nonneg dl k q); omega⟩

/-- The bucket is the word of its row. -/
theorem bucket_eq (dl k q : ℕ) : bucket (distance dl k q) = BitVec.ofNat 32 (row dl k q).val := by
  have := bucket_range _ (distance_nonneg dl k q)
  have e := BitVec.ofInt_toInt (x := bucket (distance dl k q))
  generalize hb : bucket (distance dl k q) = b at *
  rw [show (row dl k q).val = b.toInt.toNat by rw [row, ← hb], ← BitVec.ofInt_natCast, Int.toNat_of_nonneg this.1, e]

/-- The bias tiles over a table: for each block offset, head, key and query the table's entry of that distance's bucket. -/
def tiles (x : FVec Ideal ⟨2, ![32, 16]⟩ .f32) : FVec Ideal ⟨4, ![2, 16, 256, 256]⟩ .f32 :=
  fun y => x (ix2 (row (y 0).val (y 2).val (y 3).val) ⟨(y 1).val, (y 1).isLt⟩)

end Cert.Bias

end
-- ==== Proof.BiasBlock.lean ====
/-
  What one grid point of the bias tiles computes, read at an index: of the 32 entries of its head's column, the one
  whose number is the bucket.
-/
module

public import proofs.«01_k».proof.Proof.BiasRow
public import proofs.«01_k».proof.Proof.Gen.BiasIdeal.Value
public import Idealize.ShloMosaic.Lib.Pipeline.ValueKit

@[expose] public section

noncomputable section

namespace Cert.BiasIdeal

open Cert.BiasIdeal Cert.BiasIdeal.Gen Idealize.ShloMosaic Idealize.ShloMosaic.TcCoe Idealize.SL.Sem

/-- The 32 selections over a block of buckets, the entries given. -/
def chain (x1 : IVec S1x256x256 32) (w : Fin 32 → EReal) : FVec Ideal S1x1x256x256 .f32 :=
  k0_pay1 (F := Ideal) (k0_pay2 (F := Ideal) x1)
    (k0_pay10 (k0_pay2 (F := Ideal) x1)
      (k0_pay8 (k0_pay2 (F := Ideal) x1)
        (k0_pay5 (k0_pay2 (F := Ideal) x1) (k0_pay3 x1 (w 0) (w 1) (w 2) (w 3) (w 4) (w 5)) (k0_pay4 (F := Ideal) x1)
          (w 6) (w 7) (w 8) (w 9) (w 10) (w 11) (w 12))
        (k0_pay6 (k0_pay2 (F := Ideal) x1)) (k0_pay7 (w 13)) (w 14) (w 15) (w 16) (w 17) (w 18) (w 19) (w 20))
      (k0_pay9 (k0_pay2 (F := Ideal) x1)) (w 21) (w 22) (w 23) (w 24) (w 25) (w 26) (w 27))
    (k0_pay11 (k0_pay2 (F := Ideal) x1)) (k0_pay12 (w 28)) (w 29) (w 30) (w 31)

/-- Where the bucket is entry `n`'s number, the selections leave entry `n`. -/
theorem chain_apply (x1 : IVec S1x256x256 32) (w : Fin 32 → EReal) (k q : Fin 256) (n : Fin 32)
    (hb : x1 (ix3 0 k q) = BitVec.ofNat 32 n.val) : chain x1 w (ix4 0 0 k q) = w n := by
  unfold chain
  pointwise [k0_pay1, k0_pay2, k0_pay3, k0_pay4, k0_pay5, k0_pay6, k0_pay7, k0_pay8, k0_pay9, k0_pay10, k0_pay11, k0_pay12]
  rw [hb]
  fin_cases n <;> rfl

/-- The head of a grid point, as the word the body indexes with. -/
theorem head_toNat (i : grid0.Coords) : (Scalar.indexCast (BitVec.ofNat 32 (i 1).val) : BitVec 32).toNat = (i 1).val := by
  have h : (i 1).val < 16 := (i 1).isLt
  simp only [Scalar.indexCast, BitVec.toNat_ofNat]
  omega

/-- One entry read out of the table. -/
theorem entry (x0 : FVec Ideal S32x16 .f32) (i : grid0.Coords) (o : Fin 2 → ℕ) (hin : ∀ a, o a + (![1, 1] : Fin 2 → ℕ) a ≤ S32x16.size a)
    (hf : 0 < (Rect.unit (s := S32x16) o ![1, 1] hin).shape.numel) (n : Fin 32)
    (ho : o = ![n.val, (Scalar.indexCast (BitVec.ofNat 32 (i 1).val) : BitVec 32).toNat]) :
    View.ld (Val := Elt Ideal) (e' := .f32) x0 (Rect.unit (s := S32x16) o ![1, 1] hin) (Shape.Idx.first hf) = x0 (ix2 n (i 1)) := by
  rw [head_toNat] at ho
  subst ho
  refine congrArg x0 (funext fun a => Fin.ext ?_)
  match a with
  | ⟨0, _⟩ => rfl
  | ⟨1, _⟩ => rfl

/-- What the point leaves in its block: the selections over its head's column. -/
theorem out_eq (c : Dev nD) (i : grid0.Coords) (arg2 : Memref sig .tc .smem S32x16 .f32) (harg2 : arg2.IsWhole) (arg3 : Memref sig .tc .vmem S1x256x256 .i32) (harg3 : arg3.IsWhole)
    (arg4 : Memref sig .tc .vmem S1x1x256x256 .f32) (harg4 : arg4.IsWhole) (x0 : FVec Ideal S32x16 .f32) (x1 : IVec S1x256x256 32) :
    out0_A_2 (F := Ideal) c i arg2 harg2 arg3 harg3 arg4 harg4 x0 x1 = chain x1 fun n => x0 (ix2 n (i 1)) := by
  frame_out
  rw [entry x0 i (k0_off1 i) _ _ 0 rfl,
    entry x0 i (k0_off2 i) _ _ 1 rfl,
    entry x0 i (k0_off3 i) _ _ 2 rfl,
    entry x0 i (k0_off4 i) _ _ 3 rfl,
    entry x0 i (k0_off5 i) _ _ 4 rfl,
    entry x0 i (k0_off6 i) _ _ 5 rfl,
    entry x0 i (k0_off7 i) _ _ 6 rfl,
    entry x0 i (k0_off8 i) _ _ 7 rfl,
    entry x0 i (k0_off9 i) _ _ 8 rfl,
    entry x0 i (k0_off10 i) _ _ 9 rfl,
    entry x0 i (k0_off11 i) _ _ 10 rfl,
    entry x0 i (k0_off12 i) _ _ 11 rfl,
    entry x0 i (k0_off13 i) _ _ 12 rfl,
    entry x0 i (k0_off14 i) _ _ 13 rfl,
    entry x0 i (k0_off15 i) _ _ 14 rfl,
    entry x0 i (k0_off16 i) _ _ 15 rfl,
    entry x0 i (k0_off17 i) _ _ 16 rfl,
    entry x0 i (k0_off18 i) _ _ 17 rfl,
    entry x0 i (k0_off19 i) _ _ 18 rfl,
    entry x0 i (k0_off20 i) _ _ 19 rfl,
    entry x0 i (k0_off21 i) _ _ 20 rfl,
    entry x0 i (k0_off22 i) _ _ 21 rfl,
    entry x0 i (k0_off23 i) _ _ 22 rfl,
    entry x0 i (k0_off24 i) _ _ 23 rfl,
    entry x0 i (k0_off25 i) _ _ 24 rfl,
    entry x0 i (k0_off26 i) _ _ 25 rfl,
    entry x0 i (k0_off27 i) _ _ 26 rfl,
    entry x0 i (k0_off28 i) _ _ 27 rfl,
    entry x0 i (k0_off29 i) _ _ 28 rfl,
    entry x0 i (k0_off30 i) _ _ 29 rfl,
    entry x0 i (k0_off31 i) _ _ 30 rfl,
    entry x0 i (k0_off32 i) _ _ 31 rfl]
  rfl

end Cert.BiasIdeal

end
-- ==== Proof.BiasArray.lean ====
/-
  What the bias tiles leave in their result array: every tile, over the table as launched.
-/
module

public import proofs.«01_k».proof.Proof.BiasBlock
public import Idealize.ShloMosaic.Lib.Pipeline.ValueKit

@[expose] public section

noncomputable section

namespace Cert.BiasIdeal.Value

open Cert.BiasIdeal Cert.BiasIdeal.Gen Idealize.ShloMosaic Idealize.ShloMosaic.TcCoe Idealize.SL.Sem
open Idealize.ShloMosaic.Pipeline (Dat)
open Cert.Bias (distance bucket row tiles)

variable (m : (ℓ : Loc nD τ sig) → Buf (Elt Ideal) ℓ) (ρ : Dev nD → PrngReg)

/-- There are 32 grid points. -/
theorem lt_N (t : Fin cfg0.N) : t.val < 32 := t.isLt.trans_eq N_0

/-- Grid point `t` is block offset `t / 16` and head `t % 16`. -/
theorem idx (t : Fin cfg0.N) : win0_0.index t = ![0, 0] ∧ win0_1.index t = ![t.val / 16, 0, 0]
    ∧ win0_2.index t = ![t.val / 16, t.val % 16, 0, 0] ∧ ((grid0.coords t) 1).val = t.val % 16 :=
  (by decide +kernel : ∀ t : Fin grid0.N, win0_0.index t = ![0, 0] ∧ win0_1.index t = ![t.val / 16, 0, 0]
    ∧ win0_2.index t = ![t.val / 16, t.val % 16, 0, 0] ∧ ((grid0.coords t) 1).val = t.val % 16) t

/-- The host's distance for block offset 0 or 1, as it computes it. -/
theorem distance0 (k q : ℕ) : distance 0 k q
    = IntOp.maxsi (IntOp.subi (IntOp.addi (BitVec.ofNat 32 q) 0#32) (BitVec.ofNat 32 k)) 0#32 := by
  rw [distance, show IntOp.addi (IntOp.muli 256#32 (BitVec.ofNat 32 0)) (BitVec.ofNat 32 q) = IntOp.addi (BitVec.ofNat 32 q) 0#32 from BitVec.add_comm _ _]

theorem distance1 (k q : ℕ) : distance 1 k q
    = IntOp.maxsi (IntOp.subi (IntOp.addi (BitVec.ofNat 32 q) 256#32) (BitVec.ofNat 32 k)) 0#32 := by
  rw [distance, show IntOp.addi (IntOp.muli 256#32 (BitVec.ofNat 32 1)) (BitVec.ofNat 32 q) = IntOp.addi (BitVec.ofNat 32 q) 256#32 from BitVec.add_comm _ _]

/-- The buckets the host computes, read at a block offset, a key and a query. -/
theorem buckets (c : Dev nD) (dl : Fin 2) (k q : Fin 256) : V m c main_v56 (ix3 dl k q) = bucket (distance dl.val k.val q.val) := by
  show StableHlo.after [hostOps0, hostOps0_1, hostOps0_2, hostOps0_3, hostOps0_4].flatten (fun b => m (c, b)) (Proc.tc.devRef main_v56) (ix3 dl k q) = _
  simp only [hostOps0, hostOps0_1, hostOps0_2, hostOps0_3, hostOps0_4, List.flatten_cons, List.flatten_nil, List.cons_append, List.nil_append, List.append_nil,
    StableHlo.TRef.ternary, StableHlo.TRef.toBuf, StableHlo.TRef.ofBuf, cast_eq]
  after_results_simp
  fin_cases dl
  · show _ = bucket (distance 0 k.val q.val)
    rw [distance0]
    pointwise
    rfl
  · show _ = bucket (distance 1 k.val q.val)
    rw [distance1]
    pointwise
    rfl

section Blocks

variable (c : Dev nD) (t : Fin cfg0.N)

/-- The block offset of grid point `t`. -/
abbrev off : Fin 2 := ⟨t.val / 16, by have := lt_N t; omega⟩

/-- The head of grid point `t`. -/
abbrev head : Fin 16 := ⟨t.val % 16, by omega⟩

theorem blk0 (n : Fin 32) (h : Fin 16) : iblk m c 0 t (ix2 n h) = m ((c : Thread nD τ).loc main_arg0) (ix2 n h) := by
  obtain ⟨e, -⟩ := idx t
  blk_simp [iblk]
  refine (congrArg (V m c main_arg0) (show (win0_0.blk t).view.emb (ix2 n h) = ix2 n h by blk_ext [e])).trans ?_
  rfl

theorem blk1 (k q : Fin 256) : iblk m c 1 t (ix3 0 k q) = bucket (distance (off t).val k.val q.val) := by
  obtain ⟨-, e, -⟩ := idx t
  blk_simp [iblk]
  exact (congrArg (V m c main_v56) (show (win0_1.blk t).view.emb (ix3 0 k q) = ix3 (off t) k q by blk_ext [e])).trans (buckets m c _ k q)

/-- What the point leaves in its block of the result. -/
theorem point (k q : Fin 256) : outsAt0 m c t (ix4 0 0 k q) = tiles (m ((c : Thread nD τ).loc main_arg0)) (ix4 (off t) (head t) k q) := by
  obtain ⟨-, -, -, e⟩ := idx t
  unfold outsAt0
  rw [out_eq]
  refine (chain_apply _ _ k q _ ((blk1 m c t k q).trans (Bias.bucket_eq _ _ _))).trans ?_
  refine (blk0 m c t _ _).trans ?_
  exact congrArg (fun h => m ((c : Thread nD τ).loc main_arg0) (ix2 _ h)) (Fin.ext e)

end Blocks

/-- The result array ends as the tiles over the table. -/
theorem final (c : Dev nD) : (dats m 0 c).arrAt 2 cfg0.N = tiles (m ((c : Thread nD τ).loc main_arg0)) := by
  refine (dats m 0 c).arrAt_eq_of_covers 2 _ (by decide +kernel) fun t hf y => ?_
  blk_simp
  rw [after0_2]
  obtain ⟨-, -, e, -⟩ := idx t
  idx_vars y
  obtain rfl : y0 = 0 := Subsingleton.elim _ _
  obtain rfl : y1 = 0 := Subsingleton.elim _ _
  have h : (win0_2.blk t).view.emb (ix4 0 0 y2 y3) = ix4 (off t) (head t) y2 y3 := by blk_ext [e]
  rw [h]
  exact point m c t y2 y3

end Cert.BiasIdeal.Value

end
-- ==== Proof.BiasRead.lean ====
/-
  The bias reference read at an index: the table's entry at the bucket of the distance.
-/
module

public import proofs.«01_k».proof.Proof.BiasRow
public import proofs.«01_k».proof.Proof.Gen.BiasRefIdeal.Read
public import Idealize.ShloMosaic.Lib.ValueIdxCore

@[expose] public section

noncomputable section

namespace Cert.BiasRefIdeal.Read

open Cert.BiasRefIdeal Idealize.ShloMosaic Cert.BiasRefIdeal.Gen
open Cert.Bias (distance bucket row tiles)

/-- The distance of key `k` from query `q` of block `dl`. -/
theorem distance_apply (dl : Fin 2) (k q : Fin 256) : val_main_v15 (F := Ideal) (ix3 dl k q) = distance dl.val k.val q.val := by
  pointwise [val_main_v15, val_main_v14, val_main_c_0, val_main_v13, val_main_v12, val_main_v11, val_main_v10, val_main_v9, val_main_v8,
    val_main_v7, val_main_v6, val_main_c, val_main_v5, val_main_v4, val_main_v3, val_main_v2, val_main_v1, val_main_v0]
  rfl

/-- Its bucket. -/
theorem bucket_apply (dl : Fin 2) (k q : Fin 256) : val_main_v33 (F := Ideal) (ix3 dl k q) = bucket (distance dl.val k.val q.val) := by
  rw [← distance_apply]
  pointwise [val_main_v33, val_main_v32, val_main_v31, val_main_c_6, val_main_v30, val_main_v29, val_main_c_5, val_main_v28, val_main_v27,
    val_main_c_4, val_main_v26, val_main_v25, val_main_v24, val_main_cst_3, val_main_v23, val_main_v22, val_main_cst_2, val_main_v21,
    val_main_v20, val_main_v19, val_main_cst, val_main_v18, val_main_v17, val_main_v16, val_main_c_1]
  rfl

/-- No bucket is negative, so none is counted from the table's end. -/
theorem index_apply (dl : Fin 2) (k q : Fin 256) : val_main_v38 (F := Ideal) (ix3 dl k q) = BitVec.ofNat 32 (row dl.val k.val q.val).val := by
  rw [val_main_v38_apply, val_main_v37_apply, val_main_v35_apply, val_main_v34_apply, val_main_c_7_apply, bucket_apply, Bias.bucket_eq]
  generalize row dl.val k.val q.val = n
  generalize IntOp.addi _ _ = z
  revert z
  fin_cases n <;> intro z <;> rfl

/-- The gather takes whole rows of the table. -/
theorem gather_apply (x : FVec Ideal S32x16 .f32) (idx : IVec S2x256x256x1 32) (dl : Fin 2) (k q : Fin 256) (h : Fin 16) :
    Host.gather gather_S32x16_S2x256x256x1_S2x256x256x16_3_0_n_n_0_3_116 x idx (ix4 dl k q h)
      = x (ix2 ⟨min (idx (ix4 dl k q 0)).toInt.toNat 31, by omega⟩ h) := by
  unfold Host.gather
  congr 1
  funext a
  refine Fin.ext ?_
  generalize hd : gather_S32x16_S2x256x256x1_S2x256x256x16_3_0_n_n_0_3_116 = d
  show d.start (ix4 dl k q h) idx a + d.batchCoord (ix4 dl k q h) a + d.offCoord (ix4 dl k q h) a = _
  subst hd
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ gather_S32x16_S2x256x256x1_S2x256x256x16_3_0_n_n_0_3_116.startIndexMap from List.mem_singleton.mpr rfl)]
    refine congrArg (fun i => min (idx i).toInt.toNat 31) (funext fun b => Fin.ext ?_)
    match b with
    | ⟨0, _⟩ => rfl
    | ⟨1, _⟩ => rfl
    | ⟨2, _⟩ => rfl
    | ⟨3, _⟩ => rfl
  | ⟨1, _⟩ =>
    rw [GatherDims.batchCoord_eq_zero _ _ _ List.not_mem_nil]
    unfold GatherDims.start GatherDims.offCoord
    rw [dif_neg (show (⟨1, by decide⟩ : Fin 2) ∉ gather_S32x16_S2x256x256x1_S2x256x256x16_3_0_n_n_0_3_116.startIndexMap from by
        show (1 : Fin 2) ∉ [(0 : Fin 2)]
        decide)]
    rw [dif_pos ((GatherDims.mem_sKept _ _).mpr ⟨by
        show (1 : Fin 2) ∉ [(0 : Fin 2)]
        decide, List.not_mem_nil⟩)]
    simp only [Nat.zero_add]
    rfl

/-- The reference's result is the bias tiles over its table. -/
theorem result_eq (x0 : FVec Ideal S32x16 .f32) : val_main_v41 (F := Ideal) x0 = tiles x0 := by
  funext y
  idx_vars y
  rw [val_main_v41_apply]
  refine (congrArg (val_main_v40 (F := Ideal) x0) (show idx_main_v41 (ix4 y0 y1 y2 y3) = ix4 y0 y2 y3 y1 from funext fun a => Fin.ext (match a with
    | ⟨0, _⟩ => rfl
    | ⟨1, _⟩ => rfl
    | ⟨2, _⟩ => rfl
    | ⟨3, _⟩ => rfl))).trans ((gather_apply x0 _ y0 y2 y3 y1).trans ?_)
  have e : val_main_v39 (F := Ideal) (ix4 y0 y2 y3 0) = BitVec.ofNat 32 (row y0.val y2.val y3.val).val :=
    (val_main_v39_apply _).trans ((congrArg (val_main_v38 (F := Ideal)) (funext fun a => Fin.ext (match a with
      | ⟨0, _⟩ => rfl
      | ⟨1, _⟩ => rfl
      | ⟨2, _⟩ => rfl))).trans (index_apply y0 y2 y3))
  refine congrArg (fun n => x0 (ix2 n y1)) (Fin.ext ?_)
  show min (val_main_v39 (F := Ideal) (ix4 y0 y2 y3 0)).toInt.toNat 31 = (row y0.val y2.val y3.val).val
  rw [e]
  generalize row y0.val y2.val y3.val = n
  revert n
  decide

end Cert.BiasRefIdeal.Read

end
-- ==== Proof.BiasClaim.lean ====
/-
  The relative-position bias tiles and their reference end with the same array, over the extended reals.
-/
module

public import proofs.«01_k».proof.Defs
public import proofs.«01_k».proof.Proof.BiasArray
public import proofs.«01_k».proof.Proof.BiasRead
public import proofs.«01_k».proof.Proof.Gen.BiasRefIdeal.Run

@[expose] public section

noncomputable section

namespace Cert

open Idealize.ShloMosaic Idealize.ShloMosaic.TcCoe Idealize.SL.Sem

/-- The bias tiles compute their reference. -/
theorem bias_algebraic : algebraic_BiasIdeal_BiasRefIdeal := by
  intro m g m' g' _ hagree
  refine ⟨fun c => Bias.tiles _,
    (θ_run _ _ _).mono (fun r h c => ⟨(h c).1.trans (BiasIdeal.Value.final m c), (h c).2⟩) (BiasIdeal.Value.run_blocks m g),
    (θ_run _ _ _).mono (fun r h c => ⟨(h c).1.trans ?_, (h c).2⟩) (BiasRefIdeal.Value.run m' g')⟩
  refine (BiasRefIdeal.Read.val_main_v41_eq m' c).trans ((BiasRefIdeal.Read.result_eq _).trans ?_)
  rw [hagree c]

end Cert

end
-- ==== Proof.DsaLoops.lean ====
/-
  The invariants of the two loops of the sparse attention kernel that have loops inside them: the
  loop over the thirty-two bits of the selection threshold, and the loop over the sixteen heads.
  Neither says what is computed.  The first keeps the scores, which it only reads; the second keeps
  what it reads and owns what it writes.
-/
module

public import proofs.«01_k».proof.Proof.Gen.Dsa.Frame
public import proofs.«01_k».proof.Proof.Gen.Dsa.Skeleton
public import proofs.«01_k».proof.Proof.Gen.Dsa.Loops

@[expose] public section

set_option maxRecDepth 16384
set_option maxHeartbeats 4000000

noncomputable section

namespace Cert.Dsa.Hand

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (𝒱 : Variants) (c : Dev nD) (bd : Option 𝒱.V) (E : Set ℕ) (i : grid0.Coords)
  (arg2 : Memref sig .tc .smem S16 .f32) (harg2 : arg2.IsWhole)
  (arg3 : Memref sig .tc .vmem S1x256x1024 .f32) (harg3 : arg3.IsWhole)
  (arg4 : Memref sig .tc .vmem S1x1024x256 .bf16) (harg4 : arg4.IsWhole)
  (arg5 : Memref sig .tc .vmem S1x512x256 .bf16) (harg5 : arg5.IsWhole)
  (arg6 : Memref sig .tc .vmem S1x8x256 .f32) (harg6 : arg6.IsWhole)
  (arg7 : Memref sig .tc .vmem S1x8x2048x128 .bf16) (harg7 : arg7.IsWhole)
  (arg8 : Memref sig .tc .vmem S1x2048x64 .bf16) (harg8 : arg8.IsWhole)
  (arg9 : Memref sig .tc .vmem S1x8x1024x256 .bf16) (harg9 : arg9.IsWhole)
  (arg10 : Memref sig .tc .vmem S2x16x256x256 .f32) (harg10 : arg10.IsWhole)
  (arg11 : Memref sig .tc .vmem S1024x1024 .bf16) (harg11 : arg11.IsWhole)
  (arg12 : Memref sig .tc .vmem S1x256x1024 .f32) (harg12 : arg12.IsWhole)
  (arg13 : Memref sig .tc .vmem S2048x256 .i32) (harg13 : arg13.IsWhole)
  (arg14 : Memref sig .tc .vmem S2048x256 .f32) (harg14 : arg14.IsWhole)
  (arg15 : Memref sig .tc .vmem S2048x256 .f32) (harg15 : arg15.IsWhole)
  (arg16 : Memref sig .tc .vmem S1024x256 .f32) (harg16 : arg16.IsWhole)
  (arg17 : Memref sig .tc .vmem S8x256 .f32) (harg17 : arg17.IsWhole)

set_option warn.classDefReducibility false in
/-- The loop over the bits of the threshold reads the scores and leaves them as they were. -/
@[sl_loop] def loopInv_k0_t3 (X_arg13 : BufTy.Contents (Elt F) arg13.view.ty) (init : IVec S1x256 32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 init where
  inv _ _ := iprop(arg13.view.loc (c : Thread nD τ) ↦[arg13.view.set]{fullShare} X_arg13)
  step k acc := by
    unfold k0_t3_body
    iintro H13
    sl_exec
    sl_step
    iexact H13

/-- What the loop over the heads holds before each of its turns. -/
abbrev headInv (X_arg2 : BufTy.Contents (Elt F) arg2.view.ty) (X_arg4 : BufTy.Contents (Elt F) arg4.view.ty) (X_arg7 : BufTy.Contents (Elt F) arg7.view.ty) (X_arg9 : BufTy.Contents (Elt F) arg9.view.ty) (X_arg10 : BufTy.Contents (Elt F) arg10.view.ty) (X_arg14 : BufTy.Contents (Elt F) arg14.view.ty) : sProp 𝕄 :=
  iprop((arg2.view.loc (c : Thread nD τ) ↦[arg2.view.set]{fullShare} X_arg2) ∗
    (arg4.view.loc (c : Thread nD τ) ↦[arg4.view.set]{fullShare} X_arg4) ∗
    (arg7.view.loc (c : Thread nD τ) ↦[arg7.view.set]{fullShare} X_arg7) ∗
    (arg9.view.loc (c : Thread nD τ) ↦[arg9.view.set]{fullShare} X_arg9) ∗
    (arg10.view.loc (c : Thread nD τ) ↦[arg10.view.set]{fullShare} X_arg10) ∗
    (arg14.view.loc (c : Thread nD τ) ↦[arg14.view.set]{fullShare} X_arg14) ∗
    (∃ f, arg15.view.loc (c : Thread nD τ) ↦[arg15.view.set]{fullShare} f) ∗
    (∃ f, arg16.view.loc (c : Thread nD τ) ↦[arg16.view.set]{fullShare} f) ∗
    (∃ f, arg17.view.loc (c : Thread nD τ) ↦[arg17.view.set]{fullShare} f))

/-- One turn of the loop over the heads. -/
theorem head_step (X_arg2 : BufTy.Contents (Elt F) arg2.view.ty) (X_arg4 : BufTy.Contents (Elt F) arg4.view.ty) (X_arg7 : BufTy.Contents (Elt F) arg7.view.ty) (X_arg9 : BufTy.Contents (Elt F) arg9.view.ty) (X_arg10 : BufTy.Contents (Elt F) arg10.view.ty) (X_arg14 : BufTy.Contents (Elt F) arg14.view.ty) (v0 : BitVec 32) (v43 : IVec S128x256 32) (k : Fin k0_t10_loop.trips) :
    headInv (F := F) c arg2 arg4 arg7 arg9 arg10 arg14 arg15 arg16 arg17 X_arg2 X_arg4 X_arg7 X_arg9 X_arg10 X_arg14 ⊢
      wp frame (wpE (defs₀ (F := F)) 𝒱 (c : Thread nD τ) bd) E
        (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v43 k ())
        (fun _ => headInv (F := F) c arg2 arg4 arg7 arg9 arg10 arg14 arg15 arg16 arg17 X_arg2 X_arg4 X_arg7 X_arg9 X_arg10 X_arg14) := by
  unfold k0_t10_body headInv
  simp only [k0_part7_eq_skeleton, k0_part8_eq_skeleton]
  iintro ⟨H2, H4, H7, H9, H10, H14, ⟨%f15, H15⟩, ⟨%f16, H16⟩, ⟨%f17, H17⟩⟩
  by_cases hc : k0_cond1 i = 1#1
  · sl_exec
    sl_step
    isplitl [H2]; · iexact H2
    isplitl [H4]; · iexact H4
    isplitl [H7]; · iexact H7
    isplitl [H9]; · iexact H9
    isplitl [H10]; · iexact H10
    isplitl [H14]; · iexact H14
    isplitl [H15]; · iexists _; iexact H15
    isplitl [H16]; · iexists _; iexact H16
    iexists _; iexact H17
  · sl_exec
    sl_step
    isplitl [H2]; · iexact H2
    isplitl [H4]; · iexact H4
    isplitl [H7]; · iexact H7
    isplitl [H9]; · iexact H9
    isplitl [H10]; · iexact H10
    isplitl [H14]; · iexact H14
    isplitl [H15]; · iexists _; iexact H15
    isplitl [H16]; · iexists _; iexact H16
    iexists _; iexact H17

set_option warn.classDefReducibility false in
/-- The loop over the heads, by `headInv`. -/
@[sl_loop] def loopInv_k0_t10 (X_arg2 : BufTy.Contents (Elt F) arg2.view.ty) (X_arg4 : BufTy.Contents (Elt F) arg4.view.ty) (X_arg7 : BufTy.Contents (Elt F) arg7.view.ty) (X_arg9 : BufTy.Contents (Elt F) arg9.view.ty) (X_arg10 : BufTy.Contents (Elt F) arg10.view.ty) (X_arg14 : BufTy.Contents (Elt F) arg14.view.ty) (v0 : BitVec 32) (v43 : IVec S128x256 32) :
    LoopInvTy_k0_t10 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v43 where
  inv _ _ := headInv (F := F) c arg2 arg4 arg7 arg9 arg10 arg14 arg15 arg16 arg17 X_arg2 X_arg4 X_arg7 X_arg9 X_arg10 X_arg14
  step k _ := head_step 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg4 X_arg7 X_arg9 X_arg10 X_arg14 v0 v43 k

end Cert.Dsa.Hand

end
-- ==== Proof.DsaFrame.lean ====
/-
  The frame of the sparse attention kernel: every run of its call ends, on every core, with the
  arguments as they were and every semaphore at zero.  The body is run once at a generic grid point,
  its loops by their invariants; what it leaves in the result is not named.
-/
module

public import proofs.«01_k».proof.Proof.DsaLoops
public import Idealize.ShloMosaic.Lib.Pipeline.Frame
public import Idealize.ShloMosaic.Lib.Claim
public import proofs.«01_k».proof.Proof.Gen.Dsa.Frame
public import proofs.«01_k».proof.Proof.Gen.Dsa.Skeleton
public import proofs.«01_k».proof.Proof.Gen.Dsa.Loops

@[expose] public section

set_option maxRecDepth 16384
set_option maxHeartbeats 4000000

noncomputable section

namespace Cert.Dsa.Hand

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body -/

/-- One run of the body, whatever follows it: the windows it reads are left as they were, the
    result's window and the scratch buffers at some contents. -/
theorem kernelRun (c : Dev nD) (i : grid0.Coords)
  (arg2 : Memref sig .tc .smem S16 .f32) (harg2 : arg2.IsWhole)
  (arg3 : Memref sig .tc .vmem S1x256x1024 .f32) (harg3 : arg3.IsWhole)
  (arg4 : Memref sig .tc .vmem S1x1024x256 .bf16) (harg4 : arg4.IsWhole)
  (arg5 : Memref sig .tc .vmem S1x512x256 .bf16) (harg5 : arg5.IsWhole)
  (arg6 : Memref sig .tc .vmem S1x8x256 .f32) (harg6 : arg6.IsWhole)
  (arg7 : Memref sig .tc .vmem S1x8x2048x128 .bf16) (harg7 : arg7.IsWhole)
  (arg8 : Memref sig .tc .vmem S1x2048x64 .bf16) (harg8 : arg8.IsWhole)
  (arg9 : Memref sig .tc .vmem S1x8x1024x256 .bf16) (harg9 : arg9.IsWhole)
  (arg10 : Memref sig .tc .vmem S2x16x256x256 .f32) (harg10 : arg10.IsWhole)
  (arg11 : Memref sig .tc .vmem S1024x1024 .bf16) (harg11 : arg11.IsWhole)
  (arg12 : Memref sig .tc .vmem S1x256x1024 .f32) (harg12 : arg12.IsWhole)
  (arg13 : Memref sig .tc .vmem S2048x256 .i32) (harg13 : arg13.IsWhole)
  (arg14 : Memref sig .tc .vmem S2048x256 .f32) (harg14 : arg14.IsWhole)
  (arg15 : Memref sig .tc .vmem S2048x256 .f32) (harg15 : arg15.IsWhole)
  (arg16 : Memref sig .tc .vmem S1024x256 .f32) (harg16 : arg16.IsWhole)
  (arg17 : Memref sig .tc .vmem S8x256 .f32) (harg17 : arg17.IsWhole)
    (x0 : Vec F S16 .f32)
    (x1 : Vec F S1x256x1024 .f32)
    (x2 : Vec F S1x1024x256 .bf16)
    (x3 : Vec F S1x512x256 .bf16)
    (x4 : Vec F S1x8x256 .f32)
    (x5 : Vec F S1x8x2048x128 .bf16)
    (x6 : Vec F S1x2048x64 .bf16)
    (x7 : Vec F S1x8x1024x256 .bf16)
    (x8 : Vec F S2x16x256x256 .f32)
    (x9 : Vec F S1024x1024 .bf16) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)) -∗ K ⟨⟩))
      ⊢ wp frame (wpE (defs₀ (F := F)) Variants.none c none) Set.univ
          (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dsa_eq_skeleton]; unfold cc0_dsa_skel
  simp only [k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-! ## The windows' buffers and the scratch buffers -/

abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x1024x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x16x256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x1024 .f32 := win0_10.stage (cfg0.slots t 10)
abbrev hs0_10 (t : Fin cfg0.N) : (ms0_10 t).IsWhole := hstage0_10 ((cfg0.slots t 10).cast nbuf0_10)
abbrev sc0 : Memref sig .tc .vmem S2048x256 .i32 := Memref.whole cc0_scratch0
abbrev sc1 : Memref sig .tc .vmem S2048x256 .f32 := Memref.whole cc0_scratch1
abbrev sc2 : Memref sig .tc .vmem S2048x256 .f32 := Memref.whole cc0_scratch2
abbrev sc3 : Memref sig .tc .vmem S1024x256 .f32 := Memref.whole cc0_scratch3
abbrev sc4 : Memref sig .tc .vmem S8x256 .f32 := Memref.whole cc0_scratch4

/-- What is kept between the grid points: the scratch buffers at some contents and the generator's
    register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The proof data -/

/-- The result's window is the one whose contents nothing reads. -/
def forgets0 : Fin 11 → Bool := fun w => decide (w = 10)

/-- The arrays as the launch finds them; each window that is read holds its block; full shares;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Dat.unnamed (cfg := cfg0) 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d))

/-- The body at a point. -/
theorem sound_body (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7, after0_8, after0_9]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The row of the body table at a point is the body. -/
theorem defs₀_row (t : Fin cfg0.N) :
    defs₀ (F := F) .tc cfg0.body (cfg0.bodyArgs t (cfg0.slots t)) = bodyAt0 t := by
  unfold defs₀; rw [Defs.onTc_tc]

/-- The body obligation, the result's window unnamed. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every run ends, with the windows that are read as the launch found them and every semaphore at
    zero. -/
theorem run_main : θ_run defs (onTc (τ := τ) (main (F := F))) (s₀ m ρ)
    (fun r => Pipeline.RDat.FramePost (cfgs 0) (fun c => (dats m 0 c).toRForget forgets0) (V m) r
      ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- A window that is read ends as the launch found its array. -/
theorem read_kept {r : PUnit × MemSt nD τ sig (Elt F)}
    (h : Pipeline.RDat.FramePost (cfgs 0) (fun c => (dats (F := F) m 0 c).toRForget forgets0) (V m) r)
    (c : Dev nD) (w : Fin cfg0.W) (hw : (cfg0.win w).isOut = false) :
    r.2.mem ((cfg0.spec w).arr.view.loc (c.tc : Thread nD τ)) = V m c (Pipeline.arrRef spec0 w) := by
  have h1 := (h c).1 w
  rw [Pipeline.RDat.ArrAt_in _ w hw] at h1
  exact h1.trans (A_eq m c w)

/-- The frame: every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
    ⟨(read_kept m h.1 c 1 rfl).trans (V_main_arg0 m c),
      (read_kept m h.1 c 0 rfl).trans (V_main_arg1 m c),
      (read_kept m h.1 c 2 rfl).trans (V_main_arg2 m c),
      (read_kept m h.1 c 3 rfl).trans (V_main_arg3 m c),
      (read_kept m h.1 c 4 rfl).trans (V_main_arg4 m c),
      (read_kept m h.1 c 5 rfl).trans (V_main_arg5 m c),
      (read_kept m h.1 c 6 rfl).trans (V_main_arg6 m c),
      (read_kept m h.1 c 7 rfl).trans (V_main_arg7 m c),
      (read_kept m h.1 c 8 rfl).trans (V_main_arg8 m c),
      ((h.1 c).2 main_arg9 (Pipeline.mem_restRefs_of main_arg9 (by decide) (by decide))).trans (V_main_arg9 m c)⟩,
    h.2⟩) (run_main m ρ)

end Cert.Dsa.Hand

end
-- ==== Proof.lean ====
/-
  The claims about the token mixer, the feed-forward block, the last feed-forward block, the attention's input projection, the relative-position bias tiles: each program leaves its arguments alone and
  terminates with every semaphore at zero (the generated frames), the idealised programs are the word programs read
  over the extended reals (no rewrite was used), and each kernel's results are its reference's.
  Of the sparse attention only that it leaves its arguments alone and terminates with every semaphore at zero.
-/
module

public import proofs.«01_k».proof.Defs
public import proofs.«01_k».proof.Proof.Gen.Mix.Frame
public import proofs.«01_k».proof.Proof.Gen.MixIdeal.Frame
public import proofs.«01_k».proof.Proof.Gen.MixRefIdeal.Run
public import proofs.«01_k».proof.Proof.MixClaim
public import proofs.«01_k».proof.Proof.Gen.Ffn.Frame
public import proofs.«01_k».proof.Proof.Gen.FfnIdeal.Frame
public import proofs.«01_k».proof.Proof.Gen.FfnRefIdeal.Run
public import proofs.«01_k».proof.Proof.FfnClaim
public import proofs.«01_k».proof.Proof.Gen.FfnLast.Frame
public import proofs.«01_k».proof.Proof.Gen.FfnLastIdeal.Frame
public import proofs.«01_k».proof.Proof.Gen.FfnLastRefIdeal.Run
public import proofs.«01_k».proof.Proof.FfnLastClaim
public import proofs.«01_k».proof.Proof.Gen.Cin.Frame
public import proofs.«01_k».proof.Proof.Gen.CinIdeal.Frame
public import proofs.«01_k».proof.Proof.Gen.CinRefIdeal.Run
public import proofs.«01_k».proof.Proof.CinClaim
public import proofs.«01_k».proof.Proof.Gen.Bias.Frame
public import proofs.«01_k».proof.Proof.Gen.BiasIdeal.Frame
public import proofs.«01_k».proof.Proof.Gen.BiasRefIdeal.Run
public import proofs.«01_k».proof.Proof.BiasClaim
public import proofs.«01_k».proof.Proof.Gen.Dsa.Frame
public import proofs.«01_k».proof.Proof.DsaFrame

@[expose] public section

noncomputable section

namespace Cert.Proof

open Idealize.ShloMosaic Idealize.SL.Sem

theorem claim : Cert.Claim :=
  ⟨Cert.Mix.Gen.facts, Cert.MixIdeal.Gen.facts, Cert.MixRefIdeal.Gen.facts,
    Cert.Ffn.Gen.facts, Cert.FfnIdeal.Gen.facts, Cert.FfnRefIdeal.Gen.facts,
    Cert.FfnLast.Gen.facts, Cert.FfnLastIdeal.Gen.facts, Cert.FfnLastRefIdeal.Gen.facts,
    Cert.Cin.Gen.facts, Cert.CinIdeal.Gen.facts, Cert.CinRefIdeal.Gen.facts,
    Cert.Bias.Gen.facts, Cert.BiasIdeal.Gen.facts, Cert.BiasRefIdeal.Gen.facts,
    Cert.Dsa.Gen.facts,
    fun m ρ _ => Cert.Mix.Gen.frame m ρ, fun m ρ _ => Cert.MixIdeal.Gen.frame m ρ,
    fun m ρ _ => (θ_run _ _ _).mono (fun r h => ⟨fun c => (h c).2, sem_eq_zero_of_no_sems (by decide) r.2⟩) (Cert.MixRefIdeal.Value.run m ρ),
    fun m ρ _ => Cert.Ffn.Gen.frame m ρ, fun m ρ _ => Cert.FfnIdeal.Gen.frame m ρ,
    fun m ρ _ => (θ_run _ _ _).mono (fun r h => ⟨fun c => (h c).2, sem_eq_zero_of_no_sems (by decide) r.2⟩) (Cert.FfnRefIdeal.Value.run m ρ),
    fun m ρ _ => Cert.FfnLast.Gen.frame m ρ, fun m ρ _ => Cert.FfnLastIdeal.Gen.frame m ρ,
    fun m ρ _ => (θ_run _ _ _).mono (fun r h => ⟨fun c => (h c).2, sem_eq_zero_of_no_sems (by decide) r.2⟩) (Cert.FfnLastRefIdeal.Value.run m ρ),
    fun m ρ _ => Cert.Cin.Gen.frame m ρ, fun m ρ _ => Cert.CinIdeal.Gen.frame m ρ,
    fun m ρ _ => (θ_run _ _ _).mono (fun r h => ⟨fun c => (h c).2.2.2.2.2.2, sem_eq_zero_of_no_sems (by decide) r.2⟩) (Cert.CinRefIdeal.Value.run m ρ),
    fun m ρ _ => Cert.Bias.Gen.frame m ρ, fun m ρ _ => Cert.BiasIdeal.Gen.frame m ρ,
    fun m ρ _ => (θ_run _ _ _).mono (fun r h => ⟨fun c => (h c).2, sem_eq_zero_of_no_sems (by decide) r.2⟩) (Cert.BiasRefIdeal.Value.run m ρ),
    fun m ρ _ => Cert.Dsa.Hand.frame m ρ,
    trivial, mix_algebraic, trivial, ffn_algebraic, trivial, ffn_last_algebraic, trivial, cin_algebraic, trivial, bias_algebraic⟩

end Cert.Proof

end
